-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 4096]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2x2x512x2048 : Shape := ⟨4, ![2, 2, 512, 2048]⟩
abbrev S2x2x256x2048 : Shape := ⟨4, ![2, 2, 256, 2048]⟩
abbrev S2x2x128x2048 : Shape := ⟨4, ![2, 2, 128, 2048]⟩
abbrev S4 : Shape := ⟨1, ![4]⟩
abbrev S16 : Shape := ⟨1, ![16]⟩
abbrev S_ : Shape := ⟨0, ![]⟩
abbrev S1 : Shape := ⟨1, ![1]⟩
abbrev S1x1x512x2048 : Shape := ⟨4, ![1, 1, 512, 2048]⟩
abbrev S512x2048 : Shape := ⟨2, ![512, 2048]⟩
abbrev S1x1x256x2048 : Shape := ⟨4, ![1, 1, 256, 2048]⟩
abbrev S256x2048 : Shape := ⟨2, ![256, 2048]⟩
abbrev S1x1x128x2048 : Shape := ⟨4, ![1, 1, 128, 2048]⟩
abbrev S128x2048 : Shape := ⟨2, ![128, 2048]⟩

abbrev nBuf : Space → Nat
  | .hbm => 2
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .local _ .vmem, ⟨0, _⟩ => ⟨S4096x2048, .bf16⟩
  | .local _ .vmem, ⟨1, _⟩ => ⟨S2x2x512x2048, .f32⟩
  | .local _ .vmem, ⟨2, _⟩ => ⟨S2x2x256x2048, .bf16⟩
  | .local _ .vmem, ⟨3, _⟩ => ⟨S2x2x256x2048, .bf16⟩
  | .local _ .vmem, ⟨4, _⟩ => ⟨S2x2x128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 4 → Nat :=
  let c0 : Index := 0#32
  let c0_51 : Index := 0#32
  let c1_i32_50 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v47 : BitVec 32 := Scalar.subi c1_i32_50 v2
  let c256_i32 : BitVec 32 := 256#32
  let v48 : BitVec 32 := Scalar.muli v47 c256_i32
  let v49 : Index := Scalar.indexCast v48
  let c0_52 : Index := 0#32
  ![0, 0, v49.toNat, 0]
def k0_dev3 (d0 : Dev nD) : Nat :=
  let c0_i32_64 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_63 : BitVec 32 := 2#32
  let v56 : BitVec 32 := Scalar.muli v6 c2_i32_63
  let v57 : BitVec 32 := Scalar.addi c0_i32_64 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_65 : BitVec 32 := 1#32
  let v58 : BitVec 32 := Scalar.muli v5 c1_i32_65
  let v59 : BitVec 32 := Scalar.addi v57 v58
  v59.toNat
def k0_off2 (d0 : Dev nD) : Fin 4 → Nat :=
  let c0_72 : Index := 0#32
  let c1 : Index := 1#32
  let c1_i32_70 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v68 : BitVec 32 := Scalar.subi c1_i32_70 v5
  let c256_i32_71 : BitVec 32 := 256#32
  let v69 : BitVec 32 := Scalar.muli v68 c256_i32_71
  let v70 : Index := Scalar.indexCast v69
  let c0_73 : Index := 0#32
  ![0, 1, v70.toNat, 0]
def k0_dev4 (d0 : Dev nD) : Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_83 : BitVec 32 := 2#32
  let v77 : BitVec 32 := Scalar.muli v2 c2_i32_83
  let v78 : BitVec 32 := Scalar.addi c0_i32_84 v77
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_85 : BitVec 32 := 1#32
  let v79 : BitVec 32 := Scalar.muli v7 c1_i32_85
  let v80 : BitVec 32 := Scalar.addi v78 v79
  v80.toNat
def k0_off3 (d0 : Dev nD) : Fin 4 → Nat :=
  let c1_106 : Index := 1#32
  let c0_107 : Index := 0#32
  let c1_i32_104 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v99 : BitVec 32 := Scalar.subi c1_i32_104 v2
  let c256_i32_105 : BitVec 32 := 256#32
  let v100 : BitVec 32 := Scalar.muli v99 c256_i32_105
  let v101 : Index := Scalar.indexCast v100
  let c0_108 : Index := 0#32
  ![1, 0, v101.toNat, 0]
def k0_dev5 (d0 : Dev nD) : Nat :=
  let c0_i32_119 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_118 : BitVec 32 := 2#32
  let v108 : BitVec 32 := Scalar.muli v6 c2_i32_118
  let v109 : BitVec 32 := Scalar.addi c0_i32_119 v108
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_120 : BitVec 32 := 1#32
  let v110 : BitVec 32 := Scalar.muli v5 c1_i32_120
  let v111 : BitVec 32 := Scalar.addi v109 v110
  v111.toNat
def k0_off4 (d0 : Dev nD) : Fin 4 → Nat :=
  let c1_127 : Index := 1#32
  let c1_128 : Index := 1#32
  let c1_i32_125 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v120 : BitVec 32 := Scalar.subi c1_i32_125 v5
  let c256_i32_126 : BitVec 32 := 256#32
  let v121 : BitVec 32 := Scalar.muli v120 c256_i32_126
  let v122 : Index := Scalar.indexCast v121
  let c0_129 : Index := 0#32
  ![1, 1, v122.toNat, 0]
def k0_dev6 (d0 : Dev nD) : Nat :=
  let c0_i32_140 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_139 : BitVec 32 := 2#32
  let v129 : BitVec 32 := Scalar.muli v2 c2_i32_139
  let v130 : BitVec 32 := Scalar.addi c0_i32_140 v129
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_141 : BitVec 32 := 1#32
  let v131 : BitVec 32 := Scalar.muli v7 c1_i32_141
  let v132 : BitVec 32 := Scalar.addi v130 v131
  v132.toNat
def k0_off5 (d0 : Dev nD) : Fin 4 → Nat :=
  let c0_204 : Index := 0#32
  let c0_205 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_203 : BitVec 32 := 256#32
  let v187 : BitVec 32 := Scalar.muli v2 c256_i32_203
  let v188 : Index := Scalar.indexCast v187
  let c0_206 : Index := 0#32
  ![0, 0, v188.toNat, 0]
def k0_off6 (d0 : Dev nD) (c0_i32_147 : BitVec 32) (c2_i32_0 : BitVec 32) : Fin 2 → Nat :=
  let v0 : BitVec 32 := Dev.word d0
  let v1 : BitVec 32 := Scalar.divsi v0 c2_i32_0
  let c2_i32 : BitVec 32 := 2#32
  let v2 : BitVec 32 := Scalar.remsi v1 c2_i32
  let c256_i32_146 : BitVec 32 := 256#32
  let v141 : BitVec 32 := Scalar.muli v2 c256_i32_146
  let v142 : BitVec 32 := Scalar.addi c0_i32_147 v141
  let v195 : Index := Scalar.indexCast v142
  let c0_211 : Index := 0#32
  ![v195.toNat, 0]
def k0_off6_at (r : Fin 8) : BitVec 32 × BitVec 32 :=
  if r.val < 4 then
    if r.val < 2 then
      if r.val < 1 then
        (0#32, 2#32)
      else
        (512#32, 1#32)
    else
      if r.val < 3 then
        (1024#32, 2#32)
      else
        (1536#32, 1#32)
  else
    if r.val < 6 then
      if r.val < 5 then
        (2048#32, 2#32)
      else
        (2560#32, 1#32)
    else
      if r.val < 7 then
        (3072#32, 2#32)
      else
        (3584#32, 1#32)
def k0_off7 (d0 : Dev nD) : Fin 4 → Nat :=
  let c0_213 : Index := 0#32
  let c1_214 : Index := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_212 : BitVec 32 := 256#32
  let v197 : BitVec 32 := Scalar.muli v5 c256_i32_212
  let v198 : Index := Scalar.indexCast v197
  let c0_215 : Index := 0#32
  ![0, 1, v198.toNat, 0]
def k0_off8 (d0 : Dev nD) (c0_i32_147 : BitVec 32) (c2_i32_0 : BitVec 32) (c1_i32 : BitVec 32) : Fin 2 → Nat :=
  let v0 : BitVec 32 := Dev.word d0
  let v1 : BitVec 32 := Scalar.divsi v0 c2_i32_0
  let c2_i32 : BitVec 32 := 2#32
  let v2 : BitVec 32 := Scalar.remsi v1 c2_i32
  let c256_i32_146 : BitVec 32 := 256#32
  let v141 : BitVec 32 := Scalar.muli v2 c256_i32_146
  let v142 : BitVec 32 := Scalar.addi c0_i32_147 v141
  let c1_i32_148 : BitVec 32 := 1#32
  let v3 : BitVec 32 := Dev.word d0
  let v4 : BitVec 32 := Scalar.divsi v3 c1_i32
  let c2_i32_1 : BitVec 32 := 2#32
  let v5 : BitVec 32 := Scalar.remsi v4 c2_i32_1
  let v145 : BitVec 32 := Scalar.subi c1_i32_148 v5
  let c128_i32_149 : BitVec 32 := 128#32
  let v146 : BitVec 32 := Scalar.muli v145 c128_i32_149
  let v147 : BitVec 32 := Scalar.addi v142 v146
  let c0_i32_242 : BitVec 32 := 0#32
  ![v147.toNat, 0]
def k0_off8_at (r : Fin 8) : BitVec 32 × BitVec 32 × BitVec 32 :=
  if r.val < 4 then
    if r.val < 2 then
      if r.val < 1 then
        (0#32, 2#32, 1#32)
      else
        (512#32, 1#32, 2#32)
    else
      if r.val < 3 then
        (1024#32, 2#32, 1#32)
      else
        (1536#32, 1#32, 2#32)
  else
    if r.val < 6 then
      if r.val < 5 then
        (2048#32, 2#32, 1#32)
      else
        (2560#32, 1#32, 2#32)
    else
      if r.val < 7 then
        (3072#32, 2#32, 1#32)
      else
        (3584#32, 1#32, 2#32)
def k0_dev7 (d0 : Dev nD) : Nat :=
  let c0_i32_238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_237 : BitVec 32 := 2#32
  let v217 : BitVec 32 := Scalar.muli v2 c2_i32_237
  let v218 : BitVec 32 := Scalar.addi c0_i32_238 v217
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_239 : BitVec 32 := 1#32
  let v219 : BitVec 32 := Scalar.muli v7 c1_i32_239
  let v220 : BitVec 32 := Scalar.addi v218 v219
  v220.toNat
def k0_dev8 (d0 : Dev nD) : Nat :=
  let c0_i32_247 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_246 : BitVec 32 := 2#32
  let v228 : BitVec 32 := Scalar.muli v6 c2_i32_246
  let v229 : BitVec 32 := Scalar.addi c0_i32_247 v228
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_248 : BitVec 32 := 1#32
  let v230 : BitVec 32 := Scalar.muli v5 c1_i32_248
  let v231 : BitVec 32 := Scalar.addi v229 v230
  v231.toNat
def k0_off9 (d0 : Dev nD) (c0_i32_147 : BitVec 32) (c2_i32_0 : BitVec 32) (c1_i32 : BitVec 32) : Fin 2 → Nat :=
  let v0 : BitVec 32 := Dev.word d0
  let v1 : BitVec 32 := Scalar.divsi v0 c2_i32_0
  let c2_i32 : BitVec 32 := 2#32
  let v2 : BitVec 32 := Scalar.remsi v1 c2_i32
  let c256_i32_146 : BitVec 32 := 256#32
  let v141 : BitVec 32 := Scalar.muli v2 c256_i32_146
  let v142 : BitVec 32 := Scalar.addi c0_i32_147 v141
  let v3 : BitVec 32 := Dev.word d0
  let v4 : BitVec 32 := Scalar.divsi v3 c1_i32
  let c2_i32_1 : BitVec 32 := 2#32
  let v5 : BitVec 32 := Scalar.remsi v4 c2_i32_1
  let c128_i32 : BitVec 32 := 128#32
  let v143 : BitVec 32 := Scalar.muli v5 c128_i32
  let v144 : BitVec 32 := Scalar.addi v142 v143
  let v267 : Index := Scalar.indexCast v144
  let c0_288 : Index := 0#32
  ![v267.toNat, 0]
def k0_off9_at (r : Fin 8) : BitVec 32 × BitVec 32 × BitVec 32 :=
  if r.val < 4 then
    if r.val < 2 then
      if r.val < 1 then
        (0#32, 2#32, 1#32)
      else
        (512#32, 1#32, 2#32)
    else
      if r.val < 3 then
        (1024#32, 2#32, 1#32)
      else
        (1536#32, 1#32, 2#32)
  else
    if r.val < 6 then
      if r.val < 5 then
        (2048#32, 2#32, 1#32)
      else
        (2560#32, 1#32, 2#32)
    else
      if r.val < 7 then
        (3072#32, 2#32, 1#32)
      else
        (3584#32, 1#32, 2#32)
def k0_off10 (d0 : Dev nD) (c0_i32_147 : BitVec 32) (c2_i32_0 : BitVec 32) (c1_i32 : BitVec 32) : Fin 2 → Nat :=
  let v0 : BitVec 32 := Dev.word d0
  let v1 : BitVec 32 := Scalar.divsi v0 c2_i32_0
  let c2_i32 : BitVec 32 := 2#32
  let v2 : BitVec 32 := Scalar.remsi v1 c2_i32
  let c256_i32_146 : BitVec 32 := 256#32
  let v141 : BitVec 32 := Scalar.muli v2 c256_i32_146
  let v142 : BitVec 32 := Scalar.addi c0_i32_147 v141
  let v3 : BitVec 32 := Dev.word d0
  let v4 : BitVec 32 := Scalar.divsi v3 c1_i32
  let c2_i32_1 : BitVec 32 := 2#32
  let v5 : BitVec 32 := Scalar.remsi v4 c2_i32_1
  let c128_i32 : BitVec 32 := 128#32
  let v143 : BitVec 32 := Scalar.muli v5 c128_i32
  let v144 : BitVec 32 := Scalar.addi v142 v143
  let c0_i32_305 : BitVec 32 := 0#32
  ![v144.toNat, 0]
def k0_off10_at (r : Fin 8) : BitVec 32 × BitVec 32 × BitVec 32 :=
  if r.val < 4 then
    if r.val < 2 then
      if r.val < 1 then
        (0#32, 2#32, 1#32)
      else
        (512#32, 1#32, 2#32)
    else
      if r.val < 3 then
        (1024#32, 2#32, 1#32)
      else
        (1536#32, 1#32, 2#32)
  else
    if r.val < 6 then
      if r.val < 5 then
        (2048#32, 2#32, 1#32)
      else
        (2560#32, 1#32, 2#32)
    else
      if r.val < 7 then
        (3072#32, 2#32, 1#32)
      else
        (3584#32, 1#32, 2#32)
def k0_dev9 (d0 : Dev nD) : Nat :=
  let c0_i32_303 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_302 : BitVec 32 := 2#32
  let v283 : BitVec 32 := Scalar.muli v2 c2_i32_302
  let v284 : BitVec 32 := Scalar.addi c0_i32_303 v283
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_304 : BitVec 32 := 1#32
  let v285 : BitVec 32 := Scalar.muli v7 c1_i32_304
  let v286 : BitVec 32 := Scalar.addi v284 v285
  v286.toNat
def k0_dev10 (d0 : Dev nD) : Nat :=
  let c0_i32_309 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_308 : BitVec 32 := 2#32
  let v293 : BitVec 32 := Scalar.muli v6 c2_i32_308
  let v294 : BitVec 32 := Scalar.addi c0_i32_309 v293
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_310 : BitVec 32 := 1#32
  let v295 : BitVec 32 := Scalar.muli v5 c1_i32_310
  let v296 : BitVec 32 := Scalar.addi v294 v295
  v296.toNat
def k0_off11 (d0 : Dev nD) (c0_i32_147 : BitVec 32) (c2_i32_0 : BitVec 32) : Fin 2 → Nat :=
  let v0 : BitVec 32 := Dev.word d0
  let v1 : BitVec 32 := Scalar.divsi v0 c2_i32_0
  let c2_i32 : BitVec 32 := 2#32
  let v2 : BitVec 32 := Scalar.remsi v1 c2_i32
  let c256_i32_146 : BitVec 32 := 256#32
  let v141 : BitVec 32 := Scalar.muli v2 c256_i32_146
  let v142 : BitVec 32 := Scalar.addi c0_i32_147 v141
  let c0_i32_342 : BitVec 32 := 0#32
  ![v142.toNat, 0]
def k0_off11_at (r : Fin 8) : BitVec 32 × BitVec 32 :=
  if r.val < 4 then
    if r.val < 2 then
      if r.val < 1 then
        (0#32, 2#32)
      else
        (512#32, 1#32)
    else
      if r.val < 3 then
        (1024#32, 2#32)
      else
        (1536#32, 1#32)
  else
    if r.val < 6 then
      if r.val < 5 then
        (2048#32, 2#32)
      else
        (2560#32, 1#32)
    else
      if r.val < 7 then
        (3072#32, 2#32)
      else
        (3584#32, 1#32)
def k0_dev11 (d0 : Dev nD) : Nat :=
  let c0_i32_340 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_339 : BitVec 32 := 2#32
  let v327 : BitVec 32 := Scalar.muli v6 c2_i32_339
  let v328 : BitVec 32 := Scalar.addi c0_i32_340 v327
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_341 : BitVec 32 := 1#32
  let v329 : BitVec 32 := Scalar.muli v5 c1_i32_341
  let v330 : BitVec 32 := Scalar.addi v328 v329
  v330.toNat
def k0_dev12 (d0 : Dev nD) : Nat :=
  let c0_i32_346 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_345 : BitVec 32 := 2#32
  let v337 : BitVec 32 := Scalar.muli v2 c2_i32_345
  let v338 : BitVec 32 := Scalar.addi c0_i32_346 v337
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_347 : BitVec 32 := 1#32
  let v339 : BitVec 32 := Scalar.muli v7 c1_i32_347
  let v340 : BitVec 32 := Scalar.addi v338 v339
  v340.toNat
def k0_dev13 (d0 : Dev nD) : Nat :=
  let c0_i32_404 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_403 : BitVec 32 := 2#32
  let v390 : BitVec 32 := Scalar.muli v6 c2_i32_403
  let v391 : BitVec 32 := Scalar.addi c0_i32_404 v390
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_405 : BitVec 32 := 1#32
  let v392 : BitVec 32 := Scalar.muli v5 c1_i32_405
  let v393 : BitVec 32 := Scalar.addi v391 v392
  v393.toNat
def k0_dev14 (d0 : Dev nD) : Nat :=
  let c0_i32_426 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_425 : BitVec 32 := 2#32
  let v411 : BitVec 32 := Scalar.muli v2 c2_i32_425
  let v412 : BitVec 32 := Scalar.addi c0_i32_426 v411
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_427 : BitVec 32 := 1#32
  let v413 : BitVec 32 := Scalar.muli v7 c1_i32_427
  let v414 : BitVec 32 := Scalar.addi v412 v413
  v414.toNat
def k0_off12 (d0 : Dev nD) : Fin 4 → Nat :=
  let c1_491 : Index := 1#32
  let c0_492 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_490 : BitVec 32 := 256#32
  let v469 : BitVec 32 := Scalar.muli v2 c256_i32_490
  let v470 : Index := Scalar.indexCast v469
  let c0_493 : Index := 0#32
  ![1, 0, v470.toNat, 0]
def k0_off13 (d0 : Dev nD) : Fin 4 → Nat :=
  let c1_500 : Index := 1#32
  let c1_501 : Index := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_499 : BitVec 32 := 256#32
  let v479 : BitVec 32 := Scalar.muli v5 c256_i32_499
  let v480 : Index := Scalar.indexCast v479
  let c0_502 : Index := 0#32
  ![1, 1, v480.toNat, 0]
def k0_dev15 (d0 : Dev nD) : Nat :=
  let c0_i32_524 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_523 : BitVec 32 := 2#32
  let v499 : BitVec 32 := Scalar.muli v2 c2_i32_523
  let v500 : BitVec 32 := Scalar.addi c0_i32_524 v499
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_525 : BitVec 32 := 1#32
  let v501 : BitVec 32 := Scalar.muli v7 c1_i32_525
  let v502 : BitVec 32 := Scalar.addi v500 v501
  v502.toNat
def k0_dev16 (d0 : Dev nD) : Nat :=
  let c0_i32_533 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_532 : BitVec 32 := 2#32
  let v510 : BitVec 32 := Scalar.muli v6 c2_i32_532
  let v511 : BitVec 32 := Scalar.addi c0_i32_533 v510
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_534 : BitVec 32 := 1#32
  let v512 : BitVec 32 := Scalar.muli v5 c1_i32_534
  let v513 : BitVec 32 := Scalar.addi v511 v512
  v513.toNat
def k0_dev17 (d0 : Dev nD) : Nat :=
  let c0_i32_588 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_587 : BitVec 32 := 2#32
  let v565 : BitVec 32 := Scalar.muli v2 c2_i32_587
  let v566 : BitVec 32 := Scalar.addi c0_i32_588 v565
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_589 : BitVec 32 := 1#32
  let v567 : BitVec 32 := Scalar.muli v7 c1_i32_589
  let v568 : BitVec 32 := Scalar.addi v566 v567
  v568.toNat
def k0_dev18 (d0 : Dev nD) : Nat :=
  let c0_i32_594 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_593 : BitVec 32 := 2#32
  let v575 : BitVec 32 := Scalar.muli v6 c2_i32_593
  let v576 : BitVec 32 := Scalar.addi c0_i32_594 v575
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_595 : BitVec 32 := 1#32
  let v577 : BitVec 32 := Scalar.muli v5 c1_i32_595
  let v578 : BitVec 32 := Scalar.addi v576 v577
  v578.toNat
def k0_dev19 (d0 : Dev nD) : Nat :=
  let c0_i32_624 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_623 : BitVec 32 := 2#32
  let v609 : BitVec 32 := Scalar.muli v6 c2_i32_623
  let v610 : BitVec 32 := Scalar.addi c0_i32_624 v609
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_625 : BitVec 32 := 1#32
  let v611 : BitVec 32 := Scalar.muli v5 c1_i32_625
  let v612 : BitVec 32 := Scalar.addi v610 v611
  v612.toNat
def k0_dev20 (d0 : Dev nD) : Nat :=
  let c0_i32_630 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_629 : BitVec 32 := 2#32
  let v619 : BitVec 32 := Scalar.muli v2 c2_i32_629
  let v620 : BitVec 32 := Scalar.addi c0_i32_630 v619
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_631 : BitVec 32 := 1#32
  let v621 : BitVec 32 := Scalar.muli v7 c1_i32_631
  let v622 : BitVec 32 := Scalar.addi v620 v621
  v622.toNat
def k0_dev21 (d0 : Dev nD) : Nat :=
  let c0_i32_688 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_687 : BitVec 32 := 2#32
  let v672 : BitVec 32 := Scalar.muli v6 c2_i32_687
  let v673 : BitVec 32 := Scalar.addi c0_i32_688 v672
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_689 : BitVec 32 := 1#32
  let v674 : BitVec 32 := Scalar.muli v5 c1_i32_689
  let v675 : BitVec 32 := Scalar.addi v673 v674
  v675.toNat
def k0_dev22 (d0 : Dev nD) : Nat :=
  let c0_i32_710 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_709 : BitVec 32 := 2#32
  let v693 : BitVec 32 := Scalar.muli v2 c2_i32_709
  let v694 : BitVec 32 := Scalar.addi c0_i32_710 v693
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_711 : BitVec 32 := 1#32
  let v695 : BitVec 32 := Scalar.muli v7 c1_i32_711
  let v696 : BitVec 32 := Scalar.addi v694 v695
  v696.toNat
def k0_dev23 (d0 : Dev nD) : Nat :=
  let c0_i32_797 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_796 : BitVec 32 := 2#32
  let v771 : BitVec 32 := Scalar.muli v2 c2_i32_796
  let v772 : BitVec 32 := Scalar.addi c0_i32_797 v771
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_798 : BitVec 32 := 1#32
  let v773 : BitVec 32 := Scalar.muli v7 c1_i32_798
  let v774 : BitVec 32 := Scalar.addi v772 v773
  v774.toNat
def k0_dev24 (d0 : Dev nD) : Nat :=
  let c0_i32_807 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_806 : BitVec 32 := 2#32
  let v782 : BitVec 32 := Scalar.muli v6 c2_i32_806
  let v783 : BitVec 32 := Scalar.addi c0_i32_807 v782
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_808 : BitVec 32 := 1#32
  let v784 : BitVec 32 := Scalar.muli v5 c1_i32_808
  let v785 : BitVec 32 := Scalar.addi v783 v784
  v785.toNat
def k0_dev25 (d0 : Dev nD) : Nat :=
  let c0_i32_863 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_862 : BitVec 32 := 2#32
  let v837 : BitVec 32 := Scalar.muli v2 c2_i32_862
  let v838 : BitVec 32 := Scalar.addi c0_i32_863 v837
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_864 : BitVec 32 := 1#32
  let v839 : BitVec 32 := Scalar.muli v7 c1_i32_864
  let v840 : BitVec 32 := Scalar.addi v838 v839
  v840.toNat
def k0_dev26 (d0 : Dev nD) : Nat :=
  let c0_i32_870 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_869 : BitVec 32 := 2#32
  let v847 : BitVec 32 := Scalar.muli v6 c2_i32_869
  let v848 : BitVec 32 := Scalar.addi c0_i32_870 v847
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_871 : BitVec 32 := 1#32
  let v849 : BitVec 32 := Scalar.muli v5 c1_i32_871
  let v850 : BitVec 32 := Scalar.addi v848 v849
  v850.toNat
def k0_dev27 (d0 : Dev nD) : Nat :=
  let c0_i32_901 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_900 : BitVec 32 := 2#32
  let v881 : BitVec 32 := Scalar.muli v6 c2_i32_900
  let v882 : BitVec 32 := Scalar.addi c0_i32_901 v881
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_902 : BitVec 32 := 1#32
  let v883 : BitVec 32 := Scalar.muli v5 c1_i32_902
  let v884 : BitVec 32 := Scalar.addi v882 v883
  v884.toNat
def k0_dev28 (d0 : Dev nD) : Nat :=
  let c0_i32_908 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_907 : BitVec 32 := 2#32
  let v891 : BitVec 32 := Scalar.muli v2 c2_i32_907
  let v892 : BitVec 32 := Scalar.addi c0_i32_908 v891
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_909 : BitVec 32 := 1#32
  let v893 : BitVec 32 := Scalar.muli v7 c1_i32_909
  let v894 : BitVec 32 := Scalar.addi v892 v893
  v894.toNat
def k0_dev29 (d0 : Dev nD) : Nat :=
  let c0_i32_1017 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1016 : BitVec 32 := 2#32
  let v991 : BitVec 32 := Scalar.muli v2 c2_i32_1016
  let v992 : BitVec 32 := Scalar.addi c0_i32_1017 v991
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1018 : BitVec 32 := 1#32
  let v993 : BitVec 32 := Scalar.muli v7 c1_i32_1018
  let v994 : BitVec 32 := Scalar.addi v992 v993
  v994.toNat
def k0_dev30 (d0 : Dev nD) : Nat :=
  let c0_i32_1027 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1026 : BitVec 32 := 2#32
  let v1002 : BitVec 32 := Scalar.muli v6 c2_i32_1026
  let v1003 : BitVec 32 := Scalar.addi c0_i32_1027 v1002
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1028 : BitVec 32 := 1#32
  let v1004 : BitVec 32 := Scalar.muli v5 c1_i32_1028
  let v1005 : BitVec 32 := Scalar.addi v1003 v1004
  v1005.toNat
def k0_dev31 (d0 : Dev nD) : Nat :=
  let c0_i32_1083 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1082 : BitVec 32 := 2#32
  let v1057 : BitVec 32 := Scalar.muli v2 c2_i32_1082
  let v1058 : BitVec 32 := Scalar.addi c0_i32_1083 v1057
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1084 : BitVec 32 := 1#32
  let v1059 : BitVec 32 := Scalar.muli v7 c1_i32_1084
  let v1060 : BitVec 32 := Scalar.addi v1058 v1059
  v1060.toNat
def k0_dev32 (d0 : Dev nD) : Nat :=
  let c0_i32_1090 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1089 : BitVec 32 := 2#32
  let v1067 : BitVec 32 := Scalar.muli v6 c2_i32_1089
  let v1068 : BitVec 32 := Scalar.addi c0_i32_1090 v1067
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1091 : BitVec 32 := 1#32
  let v1069 : BitVec 32 := Scalar.muli v5 c1_i32_1091
  let v1070 : BitVec 32 := Scalar.addi v1068 v1069
  v1070.toNat
def k0_dev33 (d0 : Dev nD) : Nat :=
  let c0_i32_1121 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1120 : BitVec 32 := 2#32
  let v1101 : BitVec 32 := Scalar.muli v6 c2_i32_1120
  let v1102 : BitVec 32 := Scalar.addi c0_i32_1121 v1101
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1122 : BitVec 32 := 1#32
  let v1103 : BitVec 32 := Scalar.muli v5 c1_i32_1122
  let v1104 : BitVec 32 := Scalar.addi v1102 v1103
  v1104.toNat
def k0_dev34 (d0 : Dev nD) : Nat :=
  let c0_i32_1128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1127 : BitVec 32 := 2#32
  let v1111 : BitVec 32 := Scalar.muli v2 c2_i32_1127
  let v1112 : BitVec 32 := Scalar.addi c0_i32_1128 v1111
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1129 : BitVec 32 := 1#32
  let v1113 : BitVec 32 := Scalar.muli v7 c1_i32_1129
  let v1114 : BitVec 32 := Scalar.addi v1112 v1113
  v1114.toNat
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x4096 : Shape := ⟨2, ![8192, 4096]⟩
abbrev S2x4096x2x2048 : Shape := ⟨4, ![2, 4096, 2, 2048]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S2x4096x2x2048, .bf16⟩
  | .hbm, ⟨3, _⟩ => ⟨S2x4096x2x2048, .f32⟩
  | .hbm, ⟨4, _⟩ => ⟨S_, .f32⟩
  | .hbm, ⟨5, _⟩ => ⟨S4096x2048, .f32⟩
  | .hbm, ⟨6, _⟩ => ⟨S4096x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Geom.lean ====
/-
Where everything lies: the neighbours of a device, the rows each exchange works on, the memrefs of the
buffers' slots, and how a load, a store or a split of a memref reads in terms of its rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Memref
public import Idealize.ShloMosaic.Lib.Tactic

@[expose] public section

noncomputable section

namespace Cert.Quad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## The 2x2 square of devices -/

/-- The neighbour across the first mesh axis. -/
def xn : Dev nD → Dev nD := ![2, 3, 0, 1]
/-- The neighbour across the second mesh axis. -/
def yn : Dev nD → Dev nD := ![1, 0, 3, 2]
/-- The neighbour a lane's first and fourth transfer go to. -/
def nb1 (i : Fin 4) (c : Dev nD) : Dev nD := if i.val % 2 = 0 then xn c else yn c
/-- The neighbour its second and third go to. -/
def nb2 (i : Fin 4) (c : Dev nD) : Dev nD := if i.val % 2 = 0 then yn c else xn c

theorem nb1_nb1 (i : Fin 4) (c : Dev nD) : nb1 i (nb1 i c) = c := by revert i c; decide
theorem nb2_nb2 (i : Fin 4) (c : Dev nD) : nb2 i (nb2 i c) = c := by revert i c; decide
theorem nb1_nb2 (i : Fin 4) (c : Dev nD) : nb1 i (nb2 i c) = nb2 i (nb1 i c) := by revert i c; decide
theorem xn_xn (c : Dev nD) : xn (xn c) = c := by revert c; decide
theorem yn_yn (c : Dev nD) : yn (yn c) = c := by revert c; decide

/-- The coordinate of `c` on the lane's first axis, and on its second. -/
def a1 (i : Fin 4) (c : Dev nD) : ℕ := if i.val % 2 = 0 then c.val / 2 else c.val % 2
def a2 (i : Fin 4) (c : Dev nD) : ℕ := if i.val % 2 = 0 then c.val % 2 else c.val / 2

theorem a1_le (i : Fin 4) (c : Dev nD) : a1 i c ≤ 1 := by revert i c; decide
theorem a2_le (i : Fin 4) (c : Dev nD) : a2 i c ≤ 1 := by revert i c; decide
theorem a1_nb1 (i : Fin 4) (c : Dev nD) : a1 i (nb1 i c) = 1 - a1 i c := by revert i c; decide
theorem a2_nb1 (i : Fin 4) (c : Dev nD) : a2 i (nb1 i c) = a2 i c := by revert i c; decide
theorem a1_nb2 (i : Fin 4) (c : Dev nD) : a1 i (nb2 i c) = a1 i c := by revert i c; decide
theorem a2_nb2 (i : Fin 4) (c : Dev nD) : a2 i (nb2 i c) = 1 - a2 i c := by revert i c; decide

/-! ## The rows of a chunk -/

/-- The first row of the chunk lane `i` works on in round `r`. -/
def bs (i : Fin 4) (r : ℕ) : ℕ := (4 * r + i.val) % 8 * 512
/-- The half the device keeps, the other half; the quarter it keeps of the half, the other quarter. -/
def kp (i : Fin 4) (r : ℕ) (c : Dev nD) : ℕ := bs i r + 256 * a1 i c
def ot (i : Fin 4) (r : ℕ) (c : Dev nD) : ℕ := bs i r + 256 * (1 - a1 i c)
def kq (i : Fin 4) (r : ℕ) (c : Dev nD) : ℕ := kp i r c + 128 * a2 i c
def sq (i : Fin 4) (r : ℕ) (c : Dev nD) : ℕ := kp i r c + 128 * (1 - a2 i c)

theorem bs_le (i : Fin 4) (r : ℕ) : bs i r + 512 ≤ 4096 := by unfold bs; omega
theorem kp_le (i : Fin 4) (r : ℕ) (c : Dev nD) : kp i r c + 256 ≤ 4096 := by
  have := bs_le i r; have := a1_le i c; unfold kp; omega
theorem ot_le (i : Fin 4) (r : ℕ) (c : Dev nD) : ot i r c + 256 ≤ 4096 := by
  have := bs_le i r; have := a1_le i c; unfold ot; omega
theorem kq_le (i : Fin 4) (r : ℕ) (c : Dev nD) : kq i r c + 128 ≤ 4096 := by
  have := bs_le i r; have := a1_le i c; have := a2_le i c; unfold kq kp; omega
theorem sq_le (i : Fin 4) (r : ℕ) (c : Dev nD) : sq i r c + 128 ≤ 4096 := by
  have := bs_le i r; have := a1_le i c; have := a2_le i c; unfold sq kp; omega

theorem ot_nb1 (i : Fin 4) (r : ℕ) (c : Dev nD) : ot i r (nb1 i c) = kp i r c := by
  have := a1_le i c; unfold ot kp; rw [a1_nb1]; omega
theorem kp_nb1 (i : Fin 4) (r : ℕ) (c : Dev nD) : kp i r (nb1 i c) = ot i r c := by
  unfold ot kp; rw [a1_nb1]
theorem kp_nb2 (i : Fin 4) (r : ℕ) (c : Dev nD) : kp i r (nb2 i c) = kp i r c := by
  unfold kp; rw [a1_nb2]
theorem kq_nb2 (i : Fin 4) (r : ℕ) (c : Dev nD) : kq i r (nb2 i c) = sq i r c := by
  unfold kq sq; rw [kp_nb2, a2_nb2]
theorem sq_nb2 (i : Fin 4) (r : ℕ) (c : Dev nD) : sq i r (nb2 i c) = kq i r c := by
  have := a2_le i c; unfold kq sq; rw [kp_nb2, a2_nb2]; omega

/-! ## The memrefs -/

abbrev xA : Memref sig .tc .hbm S4096x2048 .f32 := Memref.whole main_arg0
abbrev oM : Memref sig .tc .vmem S4096x2048 .bf16 := Memref.whole cc0_stg0_0
abbrev xinB : Memref sig .tc .vmem S2x2x512x2048 .f32 := Memref.whole cc0_scratch0
abbrev stgB : Memref sig .tc .vmem S2x2x256x2048 .bf16 := Memref.whole cc0_scratch1
abbrev r1B : Memref sig .tc .vmem S2x2x256x2048 .bf16 := Memref.whole cc0_scratch2
abbrev r2B : Memref sig .tc .vmem S2x2x128x2048 .bf16 := Memref.whole cc0_scratch3

theorem rows_inb {n lo : ℕ} (h : lo + n ≤ 4096) :
    ∀ a, (![lo, 0] : Fin 2 → ℕ) a + (![n, 2048] : Fin 2 → ℕ) a ≤ S4096x2048.size a := by
  intro a; fin_cases a
  · exact h
  · show 0 + 2048 ≤ 2048; omega

theorem slot_inb (i : Fin 4) (n : ℕ) :
    ∀ a, (![i.val / 2, i.val % 2, 0, 0] : Fin 4 → ℕ) a + (![1, 1, n, 2048] : Fin 4 → ℕ) a ≤ (![2, 2, n, 2048] : Fin 4 → ℕ) a := by
  intro a; fin_cases a
  · show i.val / 2 + 1 ≤ 2; omega
  · show i.val % 2 + 1 ≤ 2; omega
  · show 0 + n ≤ n; omega
  · show 0 + 2048 ≤ 2048; omega

/-- `n` rows of the result from `lo` on, and 512 rows of the argument. -/
def o128 (lo : ℕ) (h : lo + 128 ≤ 4096) : Memref sig .tc .vmem S128x2048 .bf16 :=
  oM.slice (Rect.unit (s := S4096x2048) ![lo, 0] S128x2048.size (rows_inb h)) (fun _ => rfl)
def o256 (lo : ℕ) (h : lo + 256 ≤ 4096) : Memref sig .tc .vmem S256x2048 .bf16 :=
  oM.slice (Rect.unit (s := S4096x2048) ![lo, 0] S256x2048.size (rows_inb h)) (fun _ => rfl)
def x512 (lo : ℕ) (h : lo + 512 ≤ 4096) : Memref sig .tc .hbm S512x2048 .f32 :=
  xA.slice (Rect.unit (s := S4096x2048) ![lo, 0] S512x2048.size (rows_inb h)) (fun _ => rfl)

/-- The slots of lane `i` in the four scratch buffers. -/
def xinS (i : Fin 4) : Memref sig .tc .vmem S512x2048 .f32 :=
  (xinB.slice (Rect.unit (s := S2x2x512x2048) ![i.val / 2, i.val % 2, 0, 0] S1x1x512x2048.size (slot_inb i 512))
    (fun _ => rfl)).squeeze S512x2048 squeezes_S1x1x512x2048_S512x2048
def stgS (i : Fin 4) : Memref sig .tc .vmem S256x2048 .bf16 :=
  (stgB.slice (Rect.unit (s := S2x2x256x2048) ![i.val / 2, i.val % 2, 0, 0] S1x1x256x2048.size (slot_inb i 256))
    (fun _ => rfl)).squeeze S256x2048 squeezes_S1x1x256x2048_S256x2048
def r1S (i : Fin 4) : Memref sig .tc .vmem S256x2048 .bf16 :=
  (r1B.slice (Rect.unit (s := S2x2x256x2048) ![i.val / 2, i.val % 2, 0, 0] S1x1x256x2048.size (slot_inb i 256))
    (fun _ => rfl)).squeeze S256x2048 squeezes_S1x1x256x2048_S256x2048
def r2S (i : Fin 4) : Memref sig .tc .vmem S128x2048 .bf16 :=
  (r2B.slice (Rect.unit (s := S2x2x128x2048) ![i.val / 2, i.val % 2, 0, 0] S1x1x128x2048.size (slot_inb i 128))
    (fun _ => rfl)).squeeze S128x2048 squeezes_S1x1x128x2048_S128x2048

/-- The semaphores of lane `i`, step `s`. -/
def ldSem (i : Fin 4) : DmaSem sig := ⟨1 + i.val, by have := i.isLt; show _ < 37; omega⟩
def sdSem (i s : Fin 4) : DmaSem sig := ⟨5 + 4 * i.val + s.val, by have := i.isLt; have := s.isLt; show _ < 37; omega⟩
def rvSem (i s : Fin 4) : DmaSem sig := ⟨21 + 4 * i.val + s.val, by have := i.isLt; have := s.isLt; show _ < 37; omega⟩

end Cert.Quad
end
-- ==== Proof.Own.lean ====
/-
How owning a memref at its contents moves through a load and a store of a slot or of rows, and how owning
256 rows of the result splits into two times 128.
-/
module

public import proofs.«01_k».proof.Proof.Geom

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig ℕ (Elt F) ℕ U ℕ

/-- Device `c`'s core runs `p` from here to `Q`. -/
abbrev Runs (c : Dev nD) (p : Prog (TpuEff nD τ sig (Elt F) Λ₀ Proc.tc) PUnit) (Q : PUnit → sProp 𝕄) : sProp 𝕄 :=
  wp frame (wpE (defs₀ (F := F)) Variants.none (c : Thread nD τ) none) Set.univ p Q

section Rules

variable (c : Dev nD) {cs : CoreSpace} {s s' : Shape} {e : EltTy} {m : Memref sig .tc cs s e} {r : Rect s}

/-- A load of a slot owned through its squeezed memref. -/
theorem load_slot {Q : PUnit → sProp 𝕄} {hr : ∀ a, r.stride a = 1} {hq : r.shape.Squeezes s'} (hc : r.shape.ShapeCasts s')
    (hc' : s'.ShapeCasts r.shape) {q : PosShare TreeShare} {X : s'.Idx → Elt F e}
    {hl : m.view.LoadsAt r.toLoadRect} {k : (r.shape.Idx → Elt F e) → Prog (TpuEff nD τ sig (Elt F) Λ₀ Proc.tc) PUnit} :
    (owns (c : Thread nD τ) ((m.slice r hr).squeeze s' hq) q X : sProp 𝕄)
      ⊢ iprop((owns (c : Thread nD τ) ((m.slice r hr).squeeze s' hq) q X -∗ Runs c (k (shapeCast r.shape X hc')) Q)
        -∗ Runs c (.op (.load m r.toLoadRect hl) k) Q) := by
  unfold owns
  iintro ⟨%f, %hf, H⟩ Hk
  iapply (wp_load_rect Variants.none (c : Thread nD τ) none Set.univ (m := m) (r := r) (hl := hl)
      (S := ((m.slice r hr).squeeze s' hq).view.set) (q := q) (f := f)
      (View.set_reshape (m.access r) _).ge) $$ H
  iintro H
  have hv : (m.access r).read (Elt F) f = shapeCast r.shape X hc' := by
    rw [← hf, Memref.read_squeeze_slice m r hr hq hc f, shapeCast_shapeCast]
    rfl
  rw [hv]
  iapply Hk
  iexists f; isplitr
  · ipureintro; exact hf
  · iexact H

/-- A store of a slot owned through its squeezed memref. -/
theorem store_slot {Q : PUnit → sProp 𝕄} {hr : ∀ a, r.stride a = 1} {hq : r.shape.Squeezes s'} (hc : r.shape.ShapeCasts s')
    {X : s'.Idx → Elt F e} {w : r.shape.Idx → Elt F e}
    {hx : (m.access r).Stores Finset.univ}
    {k : PUnit → Prog (TpuEff nD τ sig (Elt F) Λ₀ Proc.tc) PUnit} :
    (owns (c : Thread nD τ) ((m.slice r hr).squeeze s' hq) fullShare X : sProp 𝕄)
      ⊢ iprop((owns (c : Thread nD τ) ((m.slice r hr).squeeze s' hq) fullShare (shapeCast s' w hc) -∗ Runs c (k ⟨⟩) Q)
        -∗ Runs c (.op (.store m r w Finset.univ hx (.inl rfl)) k) Q) := by
  unfold owns
  iintro ⟨%f, %hf, H⟩ Hk
  iapply (wp_store Variants.none (c : Thread nD τ) none Set.univ (m := m) (r := r) (w := w) (Mk := Finset.univ) (hx := hx)
      (S := ((m.slice r hr).squeeze s' hq).view.set) (f := f)
      (View.set_reshape (m.access r) _).ge) $$ H
  iintro H
  iapply Hk
  iexists (m.access r).write (Elt F) f w Finset.univ; isplitr
  · ipureintro
    rw [Memref.read_squeeze_slice m r hr hq hc]
    exact congrArg (fun v => shapeCast s' v hc) (View.read_write_univ (v := m.access r) (Val := Elt F) f w)
  · iexact H

/-- A load of a rectangle owned through the memref sliced at it. -/
theorem load_rows {Q : PUnit → sProp 𝕄} {hr : ∀ a, r.stride a = 1} {q : PosShare TreeShare} {X : r.shape.Idx → Elt F e}
    {hl : m.view.LoadsAt r.toLoadRect} {k : (r.shape.Idx → Elt F e) → Prog (TpuEff nD τ sig (Elt F) Λ₀ Proc.tc) PUnit} :
    (owns (c : Thread nD τ) (m.slice r hr) q X : sProp 𝕄)
      ⊢ iprop((owns (c : Thread nD τ) (m.slice r hr) q X -∗ Runs c (k X) Q)
        -∗ Runs c (.op (.load m r.toLoadRect hl) k) Q) := by
  unfold owns
  iintro ⟨%f, %hf, H⟩ Hk
  iapply (wp_load_rect Variants.none (c : Thread nD τ) none Set.univ (m := m) (r := r) (hl := hl)
      (S := (m.slice r hr).view.set) (q := q) (f := f) (Finset.Subset.refl _)) $$ H
  iintro H
  have hv : (m.access r).read (Elt F) f = X := hf
  rw [hv]
  iapply Hk
  iexists f; isplitr
  · ipureintro; exact hf
  · iexact H

/-- A store of a rectangle owned through the memref sliced at it. -/
theorem store_rows {Q : PUnit → sProp 𝕄} {hr : ∀ a, r.stride a = 1} {X : r.shape.Idx → Elt F e} {w : r.shape.Idx → Elt F e}
    {hx : (m.access r).Stores Finset.univ}
    {k : PUnit → Prog (TpuEff nD τ sig (Elt F) Λ₀ Proc.tc) PUnit} :
    (owns (c : Thread nD τ) (m.slice r hr) fullShare X : sProp 𝕄)
      ⊢ iprop((owns (c : Thread nD τ) (m.slice r hr) fullShare w -∗ Runs c (k ⟨⟩) Q)
        -∗ Runs c (.op (.store m r w Finset.univ hx (.inl rfl)) k) Q) := by
  unfold owns
  iintro ⟨%f, %hf, H⟩ Hk
  iapply (wp_store Variants.none (c : Thread nD τ) none Set.univ (m := m) (r := r) (w := w) (Mk := Finset.univ) (hx := hx)
      (S := (m.slice r hr).view.set) (f := f) (Finset.Subset.refl _)) $$ H
  iintro H
  iapply Hk
  iexists (m.access r).write (Elt F) f w Finset.univ; isplitr
  · ipureintro
    exact View.read_write_univ (v := m.access r) (Val := Elt F) f w
  · iexact H

/-- The same four, the memref owned named apart. -/
theorem load_slot_as {Q : PUnit → sProp 𝕄} {hr : ∀ a, r.stride a = 1} {hq : r.shape.Squeezes s'} {M : Memref sig .tc cs s' e}
    (hM : (m.slice r hr).squeeze s' hq = M) (hc : r.shape.ShapeCasts s')
    (hc' : s'.ShapeCasts r.shape) {q : PosShare TreeShare} {X : s'.Idx → Elt F e}
    {hl : m.view.LoadsAt r.toLoadRect} {k : (r.shape.Idx → Elt F e) → Prog (TpuEff nD τ sig (Elt F) Λ₀ Proc.tc) PUnit} :
    (owns (c : Thread nD τ) M q X : sProp 𝕄)
      ⊢ iprop((owns (c : Thread nD τ) M q X -∗ Runs c (k (shapeCast r.shape X hc')) Q)
        -∗ Runs c (.op (.load m r.toLoadRect hl) k) Q) := by
  subst hM; exact load_slot c hc hc'

theorem store_slot_as {Q : PUnit → sProp 𝕄} {hr : ∀ a, r.stride a = 1} {hq : r.shape.Squeezes s'} {M : Memref sig .tc cs s' e}
    (hM : (m.slice r hr).squeeze s' hq = M) (hc : r.shape.ShapeCasts s')
    {X : s'.Idx → Elt F e} {w : r.shape.Idx → Elt F e}
    {hx : (m.access r).Stores Finset.univ}
    {k : PUnit → Prog (TpuEff nD τ sig (Elt F) Λ₀ Proc.tc) PUnit} :
    (owns (c : Thread nD τ) M fullShare X : sProp 𝕄)
      ⊢ iprop((owns (c : Thread nD τ) M fullShare (shapeCast s' w hc) -∗ Runs c (k ⟨⟩) Q)
        -∗ Runs c (.op (.store m r w Finset.univ hx (.inl rfl)) k) Q) := by
  subst hM; exact store_slot c hc

theorem load_rows_as {Q : PUnit → sProp 𝕄} {hr : ∀ a, r.stride a = 1} {M : Memref sig .tc cs r.shape e} (hM : m.slice r hr = M)
    {q : PosShare TreeShare} {X : r.shape.Idx → Elt F e}
    {hl : m.view.LoadsAt r.toLoadRect} {k : (r.shape.Idx → Elt F e) → Prog (TpuEff nD τ sig (Elt F) Λ₀ Proc.tc) PUnit} :
    (owns (c : Thread nD τ) M q X : sProp 𝕄)
      ⊢ iprop((owns (c : Thread nD τ) M q X -∗ Runs c (k X) Q)
        -∗ Runs c (.op (.load m r.toLoadRect hl) k) Q) := by
  subst hM; exact load_rows c

theorem store_rows_as {Q : PUnit → sProp 𝕄} {hr : ∀ a, r.stride a = 1} {M : Memref sig .tc cs r.shape e} (hM : m.slice r hr = M)
    {X : r.shape.Idx → Elt F e} {w : r.shape.Idx → Elt F e}
    {hx : (m.access r).Stores Finset.univ}
    {k : PUnit → Prog (TpuEff nD τ sig (Elt F) Λ₀ Proc.tc) PUnit} :
    (owns (c : Thread nD τ) M fullShare X : sProp 𝕄)
      ⊢ iprop((owns (c : Thread nD τ) M fullShare w -∗ Runs c (k ⟨⟩) Q)
        -∗ Runs c (.op (.store m r w Finset.univ hx (.inl rfl)) k) Q) := by
  subst hM; exact store_rows c

end Rules

/-! ## The elements of a slot -/

theorem slot_iff {n : ℕ} (x : (⟨4, ![2, 2, n, 2048]⟩ : Shape).Idx) (i : ℕ) :
    Iff (∀ a, (![i / 2, i % 2, 0, 0] : Fin 4 → ℕ) a ≤ (x a).val ∧ (x a).val < (![i / 2, i % 2, 0, 0] : Fin 4 → ℕ) a + (![1, 1, n, 2048] : Fin 4 → ℕ) a)
      ((x 0).val = i / 2 ∧ (x 1).val = i % 2) := by
  constructor
  · intro h
    have h0 : i / 2 ≤ (x 0).val ∧ (x 0).val < i / 2 + 1 := h 0
    have h1 : i % 2 ≤ (x 1).val ∧ (x 1).val < i % 2 + 1 := h 1
    omega
  · rintro ⟨h0, h1⟩ a
    have h2 : (x 2).val < n := (x 2).isLt
    have h3 : (x 3).val < 2048 := (x 3).isLt
    fin_cases a
    · exact ⟨h0.ge, by show (x 0).val < i / 2 + 1; omega⟩
    · exact ⟨h1.ge, by show (x 1).val < i % 2 + 1; omega⟩
    · exact ⟨Nat.zero_le _, by show (x 2).val < 0 + n; omega⟩
    · exact ⟨Nat.zero_le _, by show (x 3).val < 0 + 2048; omega⟩

theorem mem_xinS (i : Fin 4) (x : S2x2x512x2048.Idx) :
    Iff (x ∈ (xinS i).view.set) ((x 0).val = i.val / 2 ∧ (x 1).val = i.val % 2) := by
  have e : (xinS i).view.set = (Rect.unit (s := S2x2x512x2048) ![i.val / 2, i.val % 2, 0, 0] S1x1x512x2048.size (slot_inb i 512)).set :=
    (View.set_reshape _ _).trans (View.set_slice_whole _ _)
  exact (iff_of_eq (congrArg (x ∈ ·) e)).trans (Rect.mem_set_unit.trans (slot_iff x i.val))
theorem mem_stgS (i : Fin 4) (x : S2x2x256x2048.Idx) :
    Iff (x ∈ (stgS i).view.set) ((x 0).val = i.val / 2 ∧ (x 1).val = i.val % 2) := by
  have e : (stgS i).view.set = (Rect.unit (s := S2x2x256x2048) ![i.val / 2, i.val % 2, 0, 0] S1x1x256x2048.size (slot_inb i 256)).set :=
    (View.set_reshape _ _).trans (View.set_slice_whole _ _)
  exact (iff_of_eq (congrArg (x ∈ ·) e)).trans (Rect.mem_set_unit.trans (slot_iff x i.val))
theorem mem_r1S (i : Fin 4) (x : S2x2x256x2048.Idx) :
    Iff (x ∈ (r1S i).view.set) ((x 0).val = i.val / 2 ∧ (x 1).val = i.val % 2) := by
  have e : (r1S i).view.set = (Rect.unit (s := S2x2x256x2048) ![i.val / 2, i.val % 2, 0, 0] S1x1x256x2048.size (slot_inb i 256)).set :=
    (View.set_reshape _ _).trans (View.set_slice_whole _ _)
  exact (iff_of_eq (congrArg (x ∈ ·) e)).trans (Rect.mem_set_unit.trans (slot_iff x i.val))
theorem mem_r2S (i : Fin 4) (x : S2x2x128x2048.Idx) :
    Iff (x ∈ (r2S i).view.set) ((x 0).val = i.val / 2 ∧ (x 1).val = i.val % 2) := by
  have e : (r2S i).view.set = (Rect.unit (s := S2x2x128x2048) ![i.val / 2, i.val % 2, 0, 0] S1x1x128x2048.size (slot_inb i 128)).set :=
    (View.set_reshape _ _).trans (View.set_slice_whole _ _)
  exact (iff_of_eq (congrArg (x ∈ ·) e)).trans (Rect.mem_set_unit.trans (slot_iff x i.val))

/-! ## Half a slot of the argument's buffer -/

theorem half_inb (i : Fin 4) {lo : ℕ} (h : lo + 256 ≤ 512) :
    ∀ a, (![i.val / 2, i.val % 2, lo, 0] : Fin 4 → ℕ) a + S1x1x256x2048.size a ≤ S2x2x512x2048.size a := by
  intro a; fin_cases a
  · show i.val / 2 + 1 ≤ 2; omega
  · show i.val % 2 + 1 ≤ 2; omega
  · exact h
  · show 0 + 2048 ≤ 2048; omega

/-- The rows from `lo` on of a slot of 512. -/
def half (lo : ℕ) (h : lo + 256 ≤ 512) (X : S512x2048.Idx → Elt F .f32) : S256x2048.Idx → Elt F .f32 :=
  fun j => X (ix2 ⟨lo + (j 0).val, by have := idx2_lt0 j; omega⟩ (j 1))

theorem half_slot (c : Dev nD) (i : Fin 4) {lo : ℕ} (h : lo + 256 ≤ 512) {Q : PUnit → sProp 𝕄}
    {o : Fin 4 → ℕ} (ho : o = ![i.val / 2, i.val % 2, lo, 0])
    {hin : ∀ a, o a + S1x1x256x2048.size a ≤ S2x2x512x2048.size a}
    {q : PosShare TreeShare} {X : S512x2048.Idx → Elt F .f32}
    {hl : xinB.view.LoadsAt (Rect.unit (s := S2x2x512x2048) o S1x1x256x2048.size hin).toLoadRect}
    {k : (S1x1x256x2048.Idx → Elt F .f32) → Prog (TpuEff nD τ sig (Elt F) Λ₀ Proc.tc) PUnit} :
    (owns (c : Thread nD τ) (xinS i) q X : sProp 𝕄)
      ⊢ iprop((owns (c : Thread nD τ) (xinS i) q X -∗ Runs c (k (shapeCast S1x1x256x2048 (half lo h X) (by decide))) Q)
        -∗ Runs c (.op (.load xinB (Rect.unit (s := S2x2x512x2048) o S1x1x256x2048.size hin).toLoadRect hl) k) Q) := by
  subst ho
  unfold owns
  iintro ⟨%f, %hf, H⟩ Hk
  have W : ((xinS i).view.loc (c : Thread nD τ) ↦[(xinS i).view.set]{q} f : sProp 𝕄)
      ⊢ iprop((((xinS i).view.loc (c : Thread nD τ) ↦[(xinS i).view.set]{q} f) -∗ Runs c (k ((xinB.access
            (Rect.unit (s := S2x2x512x2048) ![i.val / 2, i.val % 2, lo, 0] S1x1x256x2048.size hin)).read (Elt F) f)) Q)
        -∗ Runs c (.op (.load xinB (Rect.unit (s := S2x2x512x2048) ![i.val / 2, i.val % 2, lo, 0] S1x1x256x2048.size hin).toLoadRect hl) k) Q) :=
    wp_load_rect Variants.none (c : Thread nD τ) none Set.univ (m := xinB)
      (r := Rect.unit (s := S2x2x512x2048) ![i.val / 2, i.val % 2, lo, 0] S1x1x256x2048.size hin) (hl := hl)
      (S := (xinS i).view.set) (q := q) (f := f) (by
        intro x hx
        have hx' : x ∈ (Rect.unit (s := S2x2x512x2048) ![i.val / 2, i.val % 2, lo, 0] S1x1x256x2048.size hin).set :=
          View.set_slice_whole cc0_scratch0 _ ▸ hx
        rw [Rect.mem_set_unit] at hx'
        have h0 : i.val / 2 ≤ (x 0).val ∧ (x 0).val < i.val / 2 + 1 := hx' 0
        have h1 : i.val % 2 ≤ (x 1).val ∧ (x 1).val < i.val % 2 + 1 := hx' 1
        exact (mem_xinS i x).mpr ⟨by omega, by omega⟩)
  iapply W $$ H
  iintro H
  have hv : (xinB.access (Rect.unit (s := S2x2x512x2048) ![i.val / 2, i.val % 2, lo, 0] S1x1x256x2048.size hin)).read (Elt F) f
      = shapeCast S1x1x256x2048 (half lo h X) (by decide) := by
    rw [← hf]
    rw [← shapeCast_shapeCast (View.read (Elt F) (xinB.access (Rect.unit (s := S2x2x512x2048) ![i.val / 2, i.val % 2, lo, 0] S1x1x256x2048.size hin)) f)
      (show S1x1x256x2048.ShapeCasts S256x2048 by decide) (show S256x2048.ShapeCasts S1x1x256x2048 by decide)]
    refine congrArg (fun v => shapeCast S1x1x256x2048 v _) (funext fun j => ?_)
    obtain ⟨a, b, rfl⟩ : ∃ a b, j = ix2 a b := ⟨_, _, eq_ix2 j⟩
    unfold half
    show f ((xinB.access (Rect.unit (s := S2x2x512x2048) ![i.val / 2, i.val % 2, lo, 0] S1x1x256x2048.size hin)).emb
          (Shape.reshapeEquiv _ (ix2 a b)))
      = f ((xinB.access (Rect.unit (s := S2x2x512x2048) ![i.val / 2, i.val % 2, 0, 0] S1x1x512x2048.size (slot_inb i 512))).emb
          (Shape.reshapeEquiv _ (ix2 ⟨lo + a.val, by omega⟩ b)))
    rw [reshapeEquiv_ix2_11ab, reshapeEquiv_ix2_11ab]
    refine congrArg f (funext fun d => Fin.ext ?_)
    fin_cases d
    · rfl
    · rfl
    · show lo + 1 * a.val = 0 + 1 * (lo + a.val); omega
    · rfl
  rw [hv]
  iapply Hk
  iexists f; isplitr
  · ipureintro; exact hf
  · iexact H

/-! ## Rows of the result -/

/-- The rows from `lo` on of an array of 4096 rows. -/
def rows {n : ℕ} (G : ℕ → Fin 2048 → Elt F .bf16) (lo : ℕ) : (⟨2, ![n, 2048]⟩ : Shape).Idx → Elt F .bf16 :=
  fun j => G (lo + (j 0).val) (j 1)

/-- The array as contents of the result's buffer. -/
def buf (G : ℕ → Fin 2048 → Elt F .bf16) : S4096x2048.Idx → Elt F .bf16 := fun j => G (j 0).val (j 1)

/-- The elements of `n` rows from `lo` on. -/
def rset (lo n : ℕ) : Finset S4096x2048.Idx := Finset.univ.filter fun x => lo ≤ (x 0).val ∧ (x 0).val < lo + n

theorem mem_rset {lo n : ℕ} (x : S4096x2048.Idx) : Iff (x ∈ rset lo n) (lo ≤ (x 0).val ∧ (x 0).val < lo + n) := by
  unfold rset; rw [Finset.mem_filter]; exact ⟨fun h => h.2, fun h => ⟨Finset.mem_univ _, h⟩⟩

theorem unit_rset {lo n : ℕ} (hin : ∀ a, (![lo, 0] : Fin 2 → ℕ) a + (![n, 2048] : Fin 2 → ℕ) a ≤ S4096x2048.size a) :
    (Rect.unit (s := S4096x2048) ![lo, 0] ![n, 2048] hin).set = rset lo n := by
  ext x
  rw [Rect.mem_set_unit, mem_rset]
  constructor
  · intro h; exact h 0
  · intro h a; fin_cases a
    · exact h
    · exact ⟨Nat.zero_le _, by have := idx2_lt1 x; show (x 1).val < 0 + 2048; omega⟩

theorem rset_union {lo lo' lo'' : ℕ} (e : (lo' = lo ∧ lo'' = lo + 128) ∨ (lo' = lo + 128 ∧ lo'' = lo)) :
    rset lo 256 = rset lo' 128 ∪ rset lo'' 128 := by
  ext x; rw [Finset.mem_union, mem_rset, mem_rset, mem_rset]; omega

theorem rset_disjoint {lo lo' n n' : ℕ} (e : lo + n ≤ lo' ∨ lo' + n' ≤ lo) : Disjoint (rset lo n) (rset lo' n') := by
  rw [Finset.disjoint_left]
  intro x hx hx'
  rw [mem_rset] at hx hx'
  omega

/-- Rows of the result's buffer of device `c`, at the contents of an array. -/
def Rows (c : Dev nD) (lo n : ℕ) (G : ℕ → Fin 2048 → Elt F .bf16) : sProp 𝕄 :=
  (c : Thread nD τ).loc cc0_stg0_0 ↦[rset lo n]{fullShare} buf G

theorem Rows_split (c : Dev nD) {lo lo' lo'' : ℕ} (e : (lo' = lo ∧ lo'' = lo + 128) ∨ (lo' = lo + 128 ∧ lo'' = lo))
    (G : ℕ → Fin 2048 → Elt F .bf16) :
    (Rows (F := F) (U := U) c lo 256 G) ⊣⊢ iprop(Rows c lo' 128 G ∗ Rows c lo'' 128 G) := by
  unfold Rows
  rw [rset_union e]
  exact pointsTo_union (rset_disjoint (by omega))

theorem o128_read {lo : ℕ} (h : lo + 128 ≤ 4096) (f : S4096x2048.Idx → Elt F .bf16) (j : S128x2048.Idx) :
    (o128 lo h).view.read (Elt F) f j = f (ix2 ⟨lo + (j 0).val, by have := idx2_lt0 j; omega⟩ (j 1)) := by
  unfold o128
  show f _ = _
  refine congrArg f (funext fun d => Fin.ext ?_)
  fin_cases d
  · show lo + 1 * (j 0).val = lo + (j 0).val; omega
  · show 0 + 1 * (j 1).val = (j 1).val; omega

theorem o128_set {lo : ℕ} (h : lo + 128 ≤ 4096) : (o128 lo h).view.set = rset lo 128 :=
  (View.set_slice_whole cc0_stg0_0 _).trans (unit_rset (rows_inb h))

theorem o128_agree {lo : ℕ} (h : lo + 128 ≤ 4096) {G : ℕ → Fin 2048 → Elt F .bf16} {f : S4096x2048.Idx → Elt F .bf16}
    (hf : (o128 lo h).view.read (Elt F) f = rows G lo) (x : S4096x2048.Idx) (hx : x ∈ rset lo 128) : f x = buf G x := by
  rw [mem_rset] at hx
  have := congrFun hf (ix2 ⟨(x 0).val - lo, by omega⟩ (x 1))
  rw [o128_read] at this
  have hx' : (ix2 ⟨lo + ((x 0).val - lo), by omega⟩ (x 1) : S4096x2048.Idx) = x := by
    funext d; refine Fin.ext ?_
    fin_cases d
    · exact Nat.add_sub_cancel' hx.1
    · rfl
  refine (congrArg f hx').symm.trans (this.trans ?_)
  show G (lo + ((x 0).val - lo)) _ = G (x 0).val _
  rw [Nat.add_sub_cancel' hx.1]

theorem o128_out (c : Dev nD) {lo : ℕ} (h : lo + 128 ≤ 4096) (G : ℕ → Fin 2048 → Elt F .bf16) :
    (owns (c : Thread nD τ) (o128 lo h) fullShare (rows G lo) : sProp 𝕄) ⊢ Rows c lo 128 G := by
  unfold owns
  iintro ⟨%f, %hf, H⟩
  have e : (((c : Thread nD τ).loc cc0_stg0_0) ↦[rset lo 128]{fullShare} f : sProp 𝕄) = Rows c lo 128 G :=
    pointsTo_congr fun x hx => o128_agree h hf x hx
  rw [← e, ← o128_set h]; iexact H

theorem o128_in (c : Dev nD) {lo : ℕ} (h : lo + 128 ≤ 4096) (G : ℕ → Fin 2048 → Elt F .bf16) :
    (Rows c lo 128 G : sProp 𝕄) ⊢ owns (c : Thread nD τ) (o128 lo h) fullShare (rows G lo) := by
  have e : (o128 lo h).view.read (Elt F) (buf G) = rows G lo := by
    funext j; rw [o128_read]; rfl
  unfold Rows
  rw [← e, ← o128_set h]
  exact owns_intro (c : Thread nD τ) (o128 lo h) fullShare (buf G)

theorem o256_read {lo : ℕ} (h : lo + 256 ≤ 4096) (f : S4096x2048.Idx → Elt F .bf16) (j : S256x2048.Idx) :
    (o256 lo h).view.read (Elt F) f j = f (ix2 ⟨lo + (j 0).val, by have := idx2_lt0 j; omega⟩ (j 1)) := by
  unfold o256
  show f _ = _
  refine congrArg f (funext fun d => Fin.ext ?_)
  fin_cases d
  · show lo + 1 * (j 0).val = lo + (j 0).val; omega
  · show 0 + 1 * (j 1).val = (j 1).val; omega

theorem o256_set {lo : ℕ} (h : lo + 256 ≤ 4096) : (o256 lo h).view.set = rset lo 256 :=
  (View.set_slice_whole cc0_stg0_0 _).trans (unit_rset (rows_inb h))

theorem o256_agree {lo : ℕ} (h : lo + 256 ≤ 4096) {G : ℕ → Fin 2048 → Elt F .bf16} {f : S4096x2048.Idx → Elt F .bf16}
    (hf : (o256 lo h).view.read (Elt F) f = rows G lo) (x : S4096x2048.Idx) (hx : x ∈ rset lo 256) : f x = buf G x := by
  rw [mem_rset] at hx
  have := congrFun hf (ix2 ⟨(x 0).val - lo, by omega⟩ (x 1))
  rw [o256_read] at this
  have hx' : (ix2 ⟨lo + ((x 0).val - lo), by omega⟩ (x 1) : S4096x2048.Idx) = x := by
    funext d; refine Fin.ext ?_
    fin_cases d
    · exact Nat.add_sub_cancel' hx.1
    · rfl
  refine (congrArg f hx').symm.trans (this.trans ?_)
  show G (lo + ((x 0).val - lo)) _ = G (x 0).val _
  rw [Nat.add_sub_cancel' hx.1]

theorem o256_out (c : Dev nD) {lo : ℕ} (h : lo + 256 ≤ 4096) (G : ℕ → Fin 2048 → Elt F .bf16) :
    (owns (c : Thread nD τ) (o256 lo h) fullShare (rows G lo) : sProp 𝕄) ⊢ Rows c lo 256 G := by
  unfold owns
  iintro ⟨%f, %hf, H⟩
  have e : (((c : Thread nD τ).loc cc0_stg0_0) ↦[rset lo 256]{fullShare} f : sProp 𝕄) = Rows c lo 256 G :=
    pointsTo_congr fun x hx => o256_agree h hf x hx
  rw [← e, ← o256_set h]; iexact H

theorem o256_in (c : Dev nD) {lo : ℕ} (h : lo + 256 ≤ 4096) (G : ℕ → Fin 2048 → Elt F .bf16) :
    (Rows c lo 256 G : sProp 𝕄) ⊢ owns (c : Thread nD τ) (o256 lo h) fullShare (rows G lo) := by
  have e : (o256 lo h).view.read (Elt F) (buf G) = rows G lo := by
    funext j; rw [o256_read]; rfl
  unfold Rows
  rw [← e, ← o256_set h]
  exact owns_intro (c : Thread nD τ) (o256 lo h) fullShare (buf G)

end Cert.Quad

end
-- ==== Proof.Sched.lean ====
/-
The protocol: what every buffer holds at each stage, which semaphore is paid what in which round, and what
each payment hands over.

Each lane `i` of a device works on two chunks of 512 rows, one in round 0 and one in round 1. In a round the
device sends the half it does not keep to its first neighbour (step 0), sends the quarter it does not keep of
the sum to its second neighbour (step 1), sends the finished quarter to its second neighbour (step 2) and the
finished half to its first (step 3). Each step has one semaphore paid when the copy has left and one, at the
receiver, paid when it has landed; both are used once a round.
-/
module

public import proofs.«01_k».proof.Proof.Own

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Contents -/

/-- The argument of device `c`, its rows counted modulo their number. -/
def X (c : Dev nD) (a : ℕ) (b : Fin 2048) : Elt F .f32 :=
  (m ((c : Thread nD τ).loc main_arg0) : S4096x2048.Idx → Elt F .f32) (ix2 ⟨a % 4096, Nat.mod_lt _ (by decide)⟩ b)
/-- It narrowed to bfloat16. -/
def T (c : Dev nD) (a : ℕ) (b : Fin 2048) : Elt F .bf16 := FloatOps.truncf .bf16 bitsLt_bf16_f32 (X m c a b)
/-- The sum over the lane's first neighbour pair. -/
def K (i : Fin 4) (c : Dev nD) (a : ℕ) (b : Fin 2048) : Elt F .bf16 := FloatOps.addf (T m c a b) (T m (nb1 i c) a b)
/-- The sum over all four devices, in the order device `c` adds. -/
def A (i : Fin 4) (c : Dev nD) (a : ℕ) (b : Fin 2048) : Elt F .bf16 := FloatOps.addf (K m i c a b) (K m i (nb2 i c) a b)

/-- The device that finishes quarter `q` of half `h` of a chunk of lane `i`. -/
def own (i : Fin 4) (h q : ℕ) : Dev nD :=
  if i.val % 2 = 0 then ⟨(2 * h + q) % 4, Nat.mod_lt _ (by decide)⟩ else ⟨(2 * q + h) % 4, Nat.mod_lt _ (by decide)⟩
/-- The lane of a row. -/
def lane (a : ℕ) : Fin 4 := ⟨a / 512 % 4, Nat.mod_lt _ (by decide)⟩
/-- The result every device ends with. -/
def OO (a : ℕ) (b : Fin 2048) : Elt F .bf16 := A m (lane a) (own (lane a) (a / 256 % 2) (a / 128 % 2)) a b

theorem own_self (i : Fin 4) (c : Dev nD) : own i (a1 i c) (a2 i c) = c := by revert i c; decide

theorem OO_kq (i : Fin 4) (r : ℕ) (c : Dev nD) (a : ℕ) (h : kq i r c ≤ a ∧ a < kq i r c + 128) (b : Fin 2048) :
    A m i c a b = OO m a b := by
  have h1 := a1_le i c
  have h2 := a2_le i c
  have hl : lane a = i := by
    refine Fin.ext ?_
    show a / 512 % 4 = i.val
    unfold kq kp bs at h
    omega
  have e1 : a / 256 % 2 = a1 i c := by unfold kq kp bs at h; omega
  have e2 : a / 128 % 2 = a2 i c := by unfold kq kp bs at h; omega
  unfold OO
  rw [hl, e1, e2, own_self]

/-- 512 rows of the argument. -/
def xrows (c : Dev nD) (lo : ℕ) : S512x2048.Idx → Elt F .f32 := fun j => X m c (lo + (j 0).val) (j 1)

/-! ## The cells -/

abbrev barS : Sem sig := (SemArray.scalar (sig.barrier 0 rfl) : Sems sig S_).sem

abbrev barCell (c : Dev nD) : GSem nD τ sig := ((c : Thread nD τ), .reg barS)
abbrev ldCell (i : Fin 4) (c : Dev nD) : GSem nD τ sig := ((c : Thread nD τ), .dma (ldSem i))
abbrev sdCell (i s : Fin 4) (c : Dev nD) : GSem nD τ sig := ((c : Thread nD τ), .dma (sdSem i s))
abbrev rvCell (i s : Fin 4) (c : Dev nD) : GSem nD τ sig := ((c : Thread nD τ), .dma (rvSem i s))

/-- What a semaphore is for. -/
inductive Role where
  | bar
  | ld (i : Fin 4)
  | sd (i s : Fin 4)
  | rv (i s : Fin 4)
  | other
deriving DecidableEq

def role : SemLoc sig → Role
  | .reg _ => .bar
  | .dma q =>
    if q.val < 1 then .other
    else if q.val < 5 then .ld ⟨(q.val - 1) % 4, Nat.mod_lt _ (by decide)⟩
    else if q.val < 21 then .sd ⟨(q.val - 5) / 4 % 4, Nat.mod_lt _ (by decide)⟩ ⟨(q.val - 5) % 4, Nat.mod_lt _ (by decide)⟩
    else .rv ⟨(q.val - 21) / 4 % 4, Nat.mod_lt _ (by decide)⟩ ⟨(q.val - 21) % 4, Nat.mod_lt _ (by decide)⟩

theorem role_bar : role (.reg barS) = .bar := rfl
theorem role_ld (i : Fin 4) : role (.dma (ldSem i)) = .ld i := by revert i; decide
theorem role_sd (i s : Fin 4) : role (.dma (sdSem i s)) = .sd i s := by revert i s; decide
theorem role_rv (i s : Fin 4) : role (.dma (rvSem i s)) = .rv i s := by revert i s; decide

/-- The credit of a step's copy, and of a load. -/
def NS : Fin 4 → ℕ := ![(r1S 0).view.dmaCredit, (r2S 0).view.dmaCredit,
  (o128 0 (by decide)).view.dmaCredit, (o256 0 (by decide)).view.dmaCredit]
def NL : ℕ := (xinS 0).view.dmaCredit

theorem NS_pos (s : Fin 4) : 0 < NS s := by
  fin_cases s <;> exact View.dmaCredit_pos _ (by decide)
theorem NL_pos : 0 < NL := View.dmaCredit_pos _ (by decide)

/-! ## What the payments hand over -/

/-- A memref of device `c` owned whole at some contents. -/
def anyM (c : Dev nD) {sp : Space} {s : Shape} {e : EltTy} (M : Memref sig .tc sp s e) : sProp 𝕄 :=
  iprop(∃ X, owns (c : Thread nD τ) M fullShare X)
/-- Rows of the result's buffer at some contents. -/
def anyRows (c : Dev nD) (lo n : ℕ) : sProp 𝕄 := iprop(∃ f : Buf (Elt F) ((c : Thread nD τ).loc cc0_stg0_0), (c : Thread nD τ).loc cc0_stg0_0 ↦[rset lo n]{fullShare} f)

/-- What `c` needs of its first (second) neighbour to start step 0 (1) of round `r`; what it has of its own once
    no round is left. -/
def Give1 (i : Fin 4) (r : ℕ) (c : Dev nD) : sProp 𝕄 :=
  if r < 2 then iprop(anyM (nb1 i c) (r1S i) ∗ reached ER (rvCell i 0 (nb1 i c)) r) else iprop(emp)
def Give2 (i : Fin 4) (r : ℕ) (c : Dev nD) : sProp 𝕄 :=
  if r < 2 then iprop(anyM (nb2 i c) (r2S i) ∗ reached ER (rvCell i 1 (nb2 i c)) r) else iprop(emp)
def Keep1 (i : Fin 4) (r : ℕ) (c : Dev nD) : sProp 𝕄 := if r < 2 then iprop(emp) else anyM c (r1S i)
def Keep2 (i : Fin 4) (r : ℕ) (c : Dev nD) : sProp 𝕄 := if r < 2 then iprop(emp) else anyM c (r2S i)

/-- What a neighbour hands over at the barrier: its landing slots, and the rows the last step lands in. -/
def Hand1 (i : Fin 4) (c : Dev nD) : sProp 𝕄 :=
  iprop(anyM (nb1 i c) (r1S i) ∗ anyRows (nb1 i c) (kp i 0 c) 256 ∗ anyRows (nb1 i c) (kp i 1 c) 256)
def Hand2 (i : Fin 4) (c : Dev nD) : sProp 𝕄 := anyM (nb2 i c) (r2S i)

def barPay (c : Dev nD) : Bool → sProp 𝕄
  | true => iprop(Hand1 0 c ∗ Hand1 2 c ∗ Hand2 1 c ∗ Hand2 3 c)
  | false => iprop(Hand1 1 c ∗ Hand1 3 c ∗ Hand2 0 c ∗ Hand2 2 c)

def xOwn (i : Fin 4) (r : ℕ) (c : Dev nD) : sProp 𝕄 := owns (c : Thread nD τ) (x512 (bs i r) (bs_le i r)) fullShare (xrows m c (bs i r))

def ldPay (i : Fin 4) (r : ℕ) (c : Dev nD) : sProp 𝕄 :=
  iprop(owns (c : Thread nD τ) (xinS i) fullShare (xrows m c (bs i r)) ∗ xOwn m i r c)

def sdPay (i : Fin 4) (r : ℕ) (c : Dev nD) : Fin 4 → sProp 𝕄
  | 0 => anyM c (stgS i)
  | 1 => iprop(emp)
  | 2 => Rows c (kq i r c) 128 (OO m)
  | 3 => Rows c (kp i r c) 256 (OO m)

def rvPay (i : Fin 4) (r : ℕ) (c : Dev nD) : Fin 4 → sProp 𝕄
  | 0 => iprop(owns (c : Thread nD τ) (r1S i) fullShare (rows (T m (nb1 i c)) (kp i r c)) ∗ reached ER (rvCell i 3 (nb1 i c)) r)
  | 1 => iprop(owns (c : Thread nD τ) (r2S i) fullShare (rows (K m i (nb2 i c)) (kq i r c)) ∗ anyRows (nb2 i c) (kq i r c) 128
      ∗ reached ER (rvCell i 2 (nb2 i c)) r)
  | 2 => iprop(Rows c (sq i r c) 128 (OO m) ∗ Give2 i (r + 1) c)
  | 3 => iprop(Rows c (ot i r c) 256 (OO m) ∗ Give1 i (r + 1) c)

/-- The payment of round `r` into cell `g`, duty `d`. -/
def payOf (c : Dev nD) (r : ℕ) (d : Bool) : Role → sProp 𝕄
  | .bar => barPay c d
  | .ld i => ldPay m i r c
  | .sd i s => sdPay m i r c s
  | .rv i s => rvPay m i r c s
  | .other => iprop(emp)

instance anyM_storable (c : Dev nD) {sp : Space} {s : Shape} {e : EltTy} (M : Memref sig .tc sp s e) :
    BI.Storable (upEmb : UEmb _ 𝕄) (anyM (F := F) c M) := by unfold anyM; infer_instance
instance anyRows_storable (c : Dev nD) (lo n : ℕ) : BI.Storable (upEmb : UEmb _ 𝕄) (anyRows (F := F) c lo n) := by
  unfold anyRows; infer_instance
instance Rows_storable (c : Dev nD) (lo n : ℕ) (G) : BI.Storable (upEmb : UEmb _ 𝕄) (Rows (F := F) c lo n G) := by
  unfold Rows; infer_instance
instance Give1_storable (i : Fin 4) (r : ℕ) (c : Dev nD) : BI.Storable (upEmb : UEmb _ 𝕄) (Give1 (F := F) i r c) := by
  unfold Give1; split <;> infer_instance
instance Give2_storable (i : Fin 4) (r : ℕ) (c : Dev nD) : BI.Storable (upEmb : UEmb _ 𝕄) (Give2 (F := F) i r c) := by
  unfold Give2; split <;> infer_instance
instance Hand1_storable (i : Fin 4) (c : Dev nD) : BI.Storable (upEmb : UEmb _ 𝕄) (Hand1 (F := F) i c) := by
  unfold Hand1; infer_instance
instance Hand2_storable (i : Fin 4) (c : Dev nD) : BI.Storable (upEmb : UEmb _ 𝕄) (Hand2 (F := F) i c) := by
  unfold Hand2; infer_instance

instance payOf_storable (c : Dev nD) (r : ℕ) (d : Bool) (ro : Role) : BI.Storable (upEmb : UEmb _ 𝕄) (payOf (F := F) m c r d ro) := by
  cases ro with
  | bar => cases d <;> (unfold payOf barPay; infer_instance)
  | ld i => unfold payOf ldPay xOwn; infer_instance
  | sd i s => fin_cases s <;> (unfold payOf sdPay; infer_instance)
  | rv i s => fin_cases s <;> (unfold payOf rvPay; infer_instance)
  | other => unfold payOf; infer_instance

/-! ## The schedule -/

def dutiesOf (r : ℕ) : Role → Finset Bool
  | .bar => if r = 0 then Finset.univ else ∅
  | .other => ∅
  | _ => if r < 2 then {false} else ∅

def amountOf : Role → ℕ
  | .bar => 1
  | .ld _ => NL
  | .sd _ s => NS s
  | .rv _ s => NS s
  | .other => 1

theorem amountOf_pos (ro : Role) : 0 < amountOf ro := by
  cases ro
  · exact Nat.one_pos
  · exact NL_pos
  · exact NS_pos _
  · exact NS_pos _
  · exact Nat.one_pos

def Rd : Rounds.Schedule (GSem nD τ sig) Bool 𝕄 where
  duties g r := if g.1.2 = .tc then dutiesOf r (role g.2) else ∅
  unitless _ := False
  amount g _ _ := amountOf (role g.2)
  payload g r d := payOf m g.1.1 r d (role g.2)
  amount_pos g _ _ _ := amountOf_pos _

instance Rd_storable (g : GSem nD τ sig) (r : ℕ) (d : Bool) : BI.Storable (upEmb : UEmb _ 𝕄) ((Rd (F := F) m).payload g r d) := by
  show BI.Storable upEmb (payOf m g.1.1 r d (role g.2)); infer_instance

section Facts
variable (c : Dev nD) (i s : Fin 4) (r : ℕ) (d : Bool)

theorem Rd_duties (sm : SemLoc sig) : (Rd (F := F) m).duties ((c : Thread nD τ), sm) r = dutiesOf r (role sm) := by
  dsimp only [Rd]; exact if_pos rfl

theorem duties_late (sm : SemLoc sig) (R : ℕ) (h : 2 ≤ R) : ∀ r', R ≤ r' → (Rd (F := F) m).duties ((c : Thread nD τ), sm) r' = ∅ := by
  intro r' hr
  rw [Rd_duties]
  cases role sm <;> first | rfl | exact if_neg (by omega)

theorem duties_late_bar : ∀ r', 1 ≤ r' → (Rd (F := F) m).duties (barCell c) r' = ∅ := by
  intro r' hr
  rw [Rd_duties, role_bar]; exact if_neg (by omega)

theorem expect_bar : (Rd (F := F) m).expect (barCell c) 0 = 2 := by
  unfold Schedule.expect Schedule.amountOf
  rw [Rd_duties, role_bar]; rfl
theorem expect_ld (h : r < 2) : (Rd (F := F) m).expect (ldCell i c) r = NL := by
  unfold Schedule.expect Schedule.amountOf
  rw [Rd_duties, role_ld, show dutiesOf r (.ld i) = {false} from if_pos h, Finset.sum_singleton]
  show amountOf (role _) = _; rw [role_ld]; rfl
theorem expect_sd (h : r < 2) : (Rd (F := F) m).expect (sdCell i s c) r = NS s := by
  unfold Schedule.expect Schedule.amountOf
  rw [Rd_duties, role_sd, show dutiesOf r (.sd i s) = {false} from if_pos h, Finset.sum_singleton]
  show amountOf (role _) = _; rw [role_sd]; rfl
theorem expect_rv (h : r < 2) : (Rd (F := F) m).expect (rvCell i s c) r = NS s := by
  unfold Schedule.expect Schedule.amountOf
  rw [Rd_duties, role_rv, show dutiesOf r (.rv i s) = {false} from if_pos h, Finset.sum_singleton]
  show amountOf (role _) = _; rw [role_rv]; rfl

theorem amount_ld : (Rd (F := F) m).amount (ldCell i c) r d = NL := by show amountOf (role _) = _; rw [role_ld]; rfl
theorem amount_sd : (Rd (F := F) m).amount (sdCell i s c) r d = NS s := by show amountOf (role _) = _; rw [role_sd]; rfl
theorem amount_rv : (Rd (F := F) m).amount (rvCell i s c) r d = NS s := by show amountOf (role _) = _; rw [role_rv]; rfl

theorem mem_sd (h : r < 2) : false ∈ (Rd (F := F) m).duties (sdCell i s c) r := by
  rw [Rd_duties, role_sd, show dutiesOf r (.sd i s) = {false} from if_pos h]; exact Finset.mem_singleton_self _
theorem mem_rv (h : r < 2) : false ∈ (Rd (F := F) m).duties (rvCell i s c) r := by
  rw [Rd_duties, role_rv, show dutiesOf r (.rv i s) = {false} from if_pos h]; exact Finset.mem_singleton_self _
theorem mem_ld (h : r < 2) : false ∈ (Rd (F := F) m).duties (ldCell i c) r := by
  rw [Rd_duties, role_ld, show dutiesOf r (.ld i) = {false} from if_pos h]; exact Finset.mem_singleton_self _

theorem pay_bar : (Rd (F := F) m).payload (barCell c) r d = barPay c d := rfl
theorem pay_ld : (Rd (F := F) m).payload (ldCell i c) r d = ldPay m i r c := by show payOf _ _ _ _ (role _) = _; rw [role_ld]; rfl
theorem pay_sd : (Rd (F := F) m).payload (sdCell i s c) r d = sdPay m i r c s := by show payOf _ _ _ _ (role _) = _; rw [role_sd]; rfl
theorem pay_rv : (Rd (F := F) m).payload (rvCell i s c) r d = rvPay m i r c s := by show payOf _ _ _ _ (role _) = _; rw [role_rv]; rfl

theorem rest_bar : bigSep ((Rd (F := F) m).duties (barCell c) 0 \ ∅) (fun d => (Rd (F := F) m).payload (barCell c) 0 d)
    = iprop(barPay c false ∗ barPay c true) := by
  rw [Finset.sdiff_empty, Rd_duties, role_bar, show dutiesOf 0 .bar = Finset.univ from rfl,
    bigSep_univ_eq_bigSepL [false, true] (by decide) (by decide), bigSepL_cons_cons, bigSepL_singleton, pay_bar, pay_bar]
  rfl
theorem rest_ld (h : r < 2) : bigSep ((Rd (F := F) m).duties (ldCell i c) r \ ∅) (fun d => (Rd (F := F) m).payload (ldCell i c) r d) = ldPay m i r c := by
  rw [Finset.sdiff_empty, Rd_duties, role_ld, show dutiesOf r (.ld i) = {false} from if_pos h, bigSep_singleton, pay_ld]
theorem rest_sd (h : r < 2) : bigSep ((Rd (F := F) m).duties (sdCell i s c) r \ ∅) (fun d => (Rd (F := F) m).payload (sdCell i s c) r d) = sdPay m i r c s := by
  rw [Finset.sdiff_empty, Rd_duties, role_sd, show dutiesOf r (.sd i s) = {false} from if_pos h, bigSep_singleton, pay_sd]
theorem rest_rv (h : r < 2) : bigSep ((Rd (F := F) m).duties (rvCell i s c) r \ ∅) (fun d => (Rd (F := F) m).payload (rvCell i s c) r d) = rvPay m i r c s := by
  rw [Finset.sdiff_empty, Rd_duties, role_rv, show dutiesOf r (.rv i s) = {false} from if_pos h, bigSep_singleton, pay_rv]

end Facts

/-! ## What is owed, and the levels -/

/-- The receiver of step `s` of lane `i`. -/
def tgt (i s : Fin 4) (c : Dev nD) : Dev nD := if s.val = 0 ∨ s.val = 3 then nb1 i c else nb2 i c
/-- How far into a round a lane is when it starts step `s`. -/
def sp : Fin 4 → ℕ := ![0, 3, 6, 8]

/-- Whether step `p.2.1` of round `p.2.2` of lane `p.1` has not been started at progress `e`. -/
abbrev pending (e : Fin 4 → ℕ) (p : Fin 4 × Fin 4 × Fin 2) : Prop := e p.1 ≤ 10 * p.2.2.val + sp p.2.1

def owed (c : Dev nD) (e : Fin 4 → ℕ) (p : Fin 4 × Fin 4 × Fin 2) : CellTallies nD τ sig ℕ :=
  if pending e p then tallyAt (rvCell p.1 p.2.1 (tgt p.1 p.2.1 c)) p.2.2.val (NS p.2.1) else 0

/-- What device `c` owes at progress `e`. -/
def Ow (c : Dev nD) (e : Fin 4 → ℕ) : CellTallies nD τ sig ℕ := ∑ p, owed c e p

theorem Ow_step (c : Dev nD) {e e' : Fin 4 → ℕ} (i s : Fin 4) (r : Fin 2) (he : e i = 10 * r.val + sp s) (he' : e' i = 10 * r.val + sp s + 1)
    (hne : ∀ j, j ≠ i → e' j = e j) : Ow c e = Ow c e' + tallyAt (rvCell i s (tgt i s c)) r.val (NS s) := by
  unfold Ow
  rw [← Finset.sum_erase_add Finset.univ (owed c e) (Finset.mem_univ (i, s, r)),
    ← Finset.sum_erase_add Finset.univ (owed c e') (Finset.mem_univ (i, s, r))]
  have h1 : owed c e (i, s, r) = tallyAt (rvCell i s (tgt i s c)) r.val (NS s) := if_pos he.le
  have h2 : owed c e' (i, s, r) = 0 := if_neg (by show ¬ e' i ≤ 10 * r.val + sp s; omega)
  rw [h1, h2, add_zero]
  congr 1
  refine Finset.sum_congr rfl fun p hp => ?_
  obtain ⟨j, t, q⟩ := p
  have hp' := Finset.ne_of_mem_erase hp
  have : Iff (pending e (j, t, q)) (pending e' (j, t, q)) := by
    show Iff (e j ≤ 10 * q.val + sp t) (e' j ≤ 10 * q.val + sp t)
    by_cases hj : j = i
    · subst hj
      have hd : ¬ (10 * r.val + sp s = 10 * q.val + sp t) := by
        intro h
        apply hp'
        revert h hp'
        clear he he' hne h1 h2 hp
        revert s r t q
        revert j
        decide
      rw [he, he']; omega
    · rw [hne j hj]
  unfold owed
  by_cases h : pending e (j, t, q)
  · rw [if_pos h, if_pos (this.mp h)]
  · rw [if_neg h, if_neg (fun h' => h (this.mpr h'))]

theorem Ow_same (c : Dev nD) {e e' : Fin 4 → ℕ} (h : ∀ p, Iff (pending e p) (pending e' p)) : Ow c e = Ow c e' := by
  unfold Ow owed
  refine Finset.sum_congr rfl fun p _ => ?_
  by_cases hp : pending e p
  · rw [if_pos hp, if_pos ((h p).mp hp)]
  · rw [if_neg hp, if_neg (fun h' => hp ((h p).mpr h'))]

def L (g : GSem nD τ sig) : Finset ℕ := if g.1.2 = .tc then {0, 1} else ∅
/-- Landings in the order of the chunks and of the steps, above the barrier, above everything else. -/
def lvOf (u : ℕ) : Role → ℕ
  | .bar => 1
  | .rv i s => 4 * (i.val / 2 + 2 * u) + s.val + 2
  | _ => 0
def lv (g : GSem nD τ sig) (u : ℕ) : ℕ := lvOf u (role g.2)

theorem L_of_ne (g : GSem nD τ sig) (h : g.1.2 ≠ .tc) : L g = ∅ := if_neg h
theorem L_tc (c : Dev nD) (sm : SemLoc sig) : L ((c : Thread nD τ), sm) = {0, 1} := if_pos rfl
theorem mem_L (c : Dev nD) (sm : SemLoc sig) {u : ℕ} (h : u < 2) : u ∈ L ((c : Thread nD τ), sm) := by
  rw [L_tc, Finset.mem_insert, Finset.mem_singleton]; omega

theorem Ow_pos {c : Dev nD} {e : Fin 4 → ℕ} {g : GSem nD τ sig} {u : ℕ} (h : 0 < Ow c e g u) :
    ∃ p : Fin 4 × Fin 4 × Fin 2, pending e p ∧ g = rvCell p.1 p.2.1 (tgt p.1 p.2.1 c) ∧ u = p.2.2.val := by
  unfold Ow at h
  rw [Finset.sum_apply, Finsupp.finset_sum_apply] at h
  obtain ⟨p, -, hp⟩ := Finset.exists_ne_zero_of_sum_ne_zero h.ne'
  refine ⟨p, ?_⟩
  unfold owed at hp
  by_cases h' : pending e p
  · rw [if_pos h', tallyAt_apply] at hp
    refine ⟨h', ?_⟩
    by_contra hn
    rw [if_neg (fun h => hn ⟨h.1, h.2⟩)] at hp
    exact hp rfl
  · rw [if_neg h'] at hp; exact absurd rfl hp

/-- A wait is allowed when everything owed is above it. -/
theorem mayWait (c : Dev nD) (sm : SemLoc sig) {u : ℕ} (hu : u < 2) (e : Fin 4 → ℕ)
    (h : ∀ p : Fin 4 × Fin 4 × Fin 2, pending e p → lvOf u (role sm) < 4 * (p.1.val / 2 + 2 * p.2.2.val) + p.2.1.val + 2) :
    (levAts L lv : sProp 𝕄) ⊢ MayWait (c : Thread nD τ) sm u (Ow c e) :=
  MayOwe.of_cut (L := L) (lev := lv) (lvOf u (role sm))
    (fun p hp => by rw [Finset.mem_singleton.mp hp]; exact mem_L c sm hu)
    (fun g u' hg => by obtain ⟨p, -, rfl, rfl⟩ := Ow_pos hg; exact mem_L _ _ p.2.2.isLt)
    (fun p hp => by rw [Finset.mem_singleton.mp hp]; exact le_refl _)
    (fun g u' hg => by
      obtain ⟨p, hp, rfl, rfl⟩ := Ow_pos hg
      show _ < lvOf _ (role _)
      rw [role_rv]; exact h p hp)

end Cert.Quad

end
-- ==== Proof.Ops.lean ====
/-
The communication operations as the protocol uses them: a copy from the argument, a send to a neighbour, a
wait, each over memrefs owned at their contents.
-/
module

public import proofs.«01_k».proof.Proof.Sched

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The cells' records -/

/-- The cells of the protocol: at 0 the barrier's, at the others the DMA semaphore of that number. -/
def csem (k : Fin 37) : SemLoc sig := if k.val = 0 then .reg barS else .dma k
abbrev kcell (ck : Dev nD × Fin 37) : GSem nD τ sig := ((ck.1 : Thread nD τ), csem ck.2)

theorem csem_dma (q : DmaSem sig) (h : q.val ≠ 0) : csem q = .dma q := if_neg h
theorem csem_bar : csem 0 = .reg barS := rfl

/-- Every cell's invariant, under the name `N` gives it, and that every cell has reached round 0. -/
def recs (N : Dev nD × Fin 37 → ℕ) : sProp 𝕄 :=
  iprop((bigSep Finset.univ fun ck : Dev nD × Fin 37 => cellInv ER (Rd m) (N ck) (kcell ck))
    ∗ (bigSep Finset.univ fun ck : Dev nD × Fin 37 => reached ER (kcell ck) 0) ∗ levAts L lv)

instance recs_persistent (N : Dev nD × Fin 37 → ℕ) : BI.Persistent (recs m N) := by unfold recs; infer_instance

theorem inv_at (N : Dev nD × Fin 37 → ℕ) (ck : Dev nD × Fin 37) :
    (bigSep Finset.univ fun ck : Dev nD × Fin 37 => (cellInv ER (Rd m) (N ck) (kcell ck) : sProp 𝕄)) ⊢ cellInv ER (Rd m) (N ck) (kcell ck) :=
  bigSep_elim (Finset.mem_univ ck)
omit [FloatOps F] in
theorem reached_at (ck : Dev nD × Fin 37) :
    (bigSep Finset.univ fun ck : Dev nD × Fin 37 => (reached ER (kcell ck) 0 : sProp 𝕄)) ⊢ reached ER (kcell ck) 0 :=
  bigSep_elim (Finset.mem_univ ck)

theorem inv_dma (N : Dev nD × Fin 37 → ℕ) (c : Dev nD) (q : DmaSem sig) (h : q.val ≠ 0) :
    recs m N ⊢ cellInv ER (Rd m) (N (c, q)) ((c : Thread nD τ), SemLoc.dma q) := by
  unfold recs
  iintro ⟨H, -⟩
  rw [← csem_dma q h]
  iapply (inv_at m N (c, q)) $$ H
theorem inv_bar (N : Dev nD × Fin 37 → ℕ) (c : Dev nD) :
    recs m N ⊢ cellInv ER (Rd m) (N (c, 0)) (barCell c) := by
  unfold recs
  iintro ⟨H, -⟩
  iapply (inv_at m N (c, 0)) $$ H
theorem reached_dma (N : Dev nD × Fin 37 → ℕ) (c : Dev nD) (q : DmaSem sig) (h : q.val ≠ 0) :
    recs m N ⊢ reached ER ((c : Thread nD τ), SemLoc.dma q) 0 := by
  unfold recs
  iintro ⟨-, H, -⟩
  rw [← csem_dma q h]
  iapply (reached_at (c, q)) $$ H
theorem reached_bar (N : Dev nD × Fin 37 → ℕ) (c : Dev nD) : recs m N ⊢ reached ER (barCell c) 0 := by
  unfold recs
  iintro ⟨-, H, -⟩
  iapply (reached_at (c, 0)) $$ H
theorem recs_lev (N : Dev nD × Fin 37 → ℕ) : recs m N ⊢ (levAts L lv : sProp 𝕄) := by
  unfold recs
  iintro ⟨-, -, H⟩
  iexact H

theorem ldSem_ne (i : Fin 4) : (ldSem i).val ≠ 0 := by show 1 + i.val ≠ 0; omega
theorem sdSem_ne (i s : Fin 4) : (sdSem i s).val ≠ 0 := by show 5 + 4 * i.val + s.val ≠ 0; omega
theorem rvSem_ne (i s : Fin 4) : (rvSem i s).val ≠ 0 := by show 21 + 4 * i.val + s.val ≠ 0; omega

/-- What device `c` owes at progress `e`, having waited on whatever it has. -/
def Owes (c : Dev nD) (e : Fin 4 → ℕ) : sProp 𝕄 := iprop(∃ W, owes (c : Thread nD τ) (Ow c e) W)

/-! ## Waits -/

theorem wait_cell (N : Dev nD × Fin 37 → ℕ) (c : Dev nD) {q : DmaSem sig} (hq : q.val ≠ 0) {r n : ℕ} (hr : r < 2) {P : sProp 𝕄}
    (hexp : (Rd (F := F) m).expect ((c : Thread nD τ), .dma q) r = n)
    (hrest : bigSep ((Rd (F := F) m).duties ((c : Thread nD τ), .dma q) r \ ∅) (fun d => (Rd (F := F) m).payload ((c : Thread nD τ), .dma q) r d) = P)
    (e : Fin 4 → ℕ)
    (hlev : ∀ p : Fin 4 × Fin 4 × Fin 2, pending e p → lvOf r (role (.dma q)) < 4 * (p.1.val / 2 + 2 * p.2.2.val) + p.2.1.val + 2)
    {sem : DmaSem sig} (hsem : sem = q) {sp sp' : Space} {s s' : Shape} {et et' : EltTy}
    {src : Memref sig .tc sp' s' et'} {dst : Memref sig .tc sp s et} (hn : dst.view.dmaCredit = n)
    {hsrc : src.view.WordExact} {hdst : dst.view.WordExact}
    {k : PUnit → Prog (TpuEff nD τ sig (Elt F) Λ₀ Proc.tc) PUnit} {Q : PUnit → sProp 𝕄} :
    iprop(recs m N ∗ Owes c e ∗ cred (tallyAt ((c : Thread nD τ), .dma q) r n) ∗ atPos ER ((c : Thread nD τ), .dma q) r ∅ 0)
      ⊢ iprop((iprop(Owes c e ∗ P ∗ atPos ER ((c : Thread nD τ), .dma q) (r + 1) ∅ 0 ∗ reached ER ((c : Thread nD τ), .dma q) (r + 1)) -∗ Runs c (k ⟨⟩) Q)
        -∗ Runs c (.op (.waitDma2 sem src dst hsrc hdst) k) Q) := by
  subst hsem
  subst hn
  unfold Owes
  iintro ⟨#HR, ⟨%W, HO⟩, Hc, Hat⟩ Hk
  iapply (Rounds.wp_wait_rest_token Variants.none ER (Rd m) (c : Thread nD τ) none (κ := N (c, sem))
      (wpE_waitDma2_eq Variants.none (c : Thread nD τ) none Set.univ) (Set.mem_univ _) r (O := Ow c e) (W := W) (R := r) (m := 0) (T := ∅)
      (by rw [Nat.zero_add, hexp])) $$ [HO Hc Hat]
  · isplitr; · iapply (inv_dma m N c sem hq); iexact HR
    isplitl [Hc]; · iexact Hc
    isplitl [HO]; · iexact HO
    isplitr; · iapply (mayWait c (.dma sem) hr e hlev); iapply (recs_lev m N); iexact HR
    iexact Hat
  iintro ⟨HO, Hat, Hre, HP⟩
  iapply Hk
  isplitl [HO]; · iexists _; iexact HO
  isplitl [HP]; · rw [← hrest]; iexact HP
  isplitl [Hat] <;> iassumption

/-! ## Sends -/

section Send

variable (N : Dev nD × Fin 37 → ℕ) (c : Dev nD) (i s : Fin 4) (r : Fin 2) {e e' : Fin 4 → ℕ}
  {n : Dev nD} {q₁ q₂ : DmaSem sig} {sh : Shape} {et : EltTy} {sp sp' : Space}
  {src src' : Memref sig .tc sp sh et} {dst dst' : Memref sig .tc sp' sh et}
  {k : PUnit → Prog (TpuEff nD τ sig (Elt F) Λ₀ Proc.tc) PUnit}

/-- The duty tokens step `s` of round `r` pays with. -/
def toks (i s : Fin 4) (r : ℕ) (c : Dev nD) : sProp 𝕄 :=
  iprop(dutyTok ER (sdCell i s c) r false ∗ dutyTok ER (rvCell i s (tgt i s c)) r false)

theorem send_with {t : Dev nD} (ht : tgt i s c = t) (hn : n = t) (hq₁ : q₁ = sdSem i s) (hq₂ : q₂ = rvSem i s) (hsrc' : src = src') (hdst' : dst = dst')
    (hN : dst.view.dmaCredit = NS s)
    (he : e i = 10 * r.val + Cert.Quad.sp s) (he' : e' i = 10 * r.val + Cert.Quad.sp s + 1) (hne : ∀ j, j ≠ i → e' j = e j)
    {X : sh.Idx → Elt F et} {Fr : sProp 𝕄}
    (hp₁ : owns (c : Thread nD τ) src' fullShare X ⊢ sdPay m i r.val c s)
    (hp₂ : iprop(owns (t : Thread nD τ) dst' fullShare X ∗ Fr) ⊢ rvPay m i r.val t s)
    {Q : PUnit → sProp 𝕄} {hsc : (dst : Memref sig (Dev.tc n : Thread nD τ).2.kind sp' sh et).view.ref.isScScratch = false}
    {hsrc : src.view.WordExact} {hdst : dst.view.WordExact}
    {hsem : DmaTarget.Typed sp (.dma q₂) (.remote (Dev.tc n : Thread nD τ) dst (.dma q₁) hsc)} :
    iprop(recs m N ∗ Owes c e ∗ owns (c : Thread nD τ) src' fullShare X ∗ anyM t dst' ∗ Fr ∗ toks i s r.val c
        ∗ reached ER (sdCell i s c) r.val ∗ reached ER (rvCell i s t) r.val)
      ⊢ iprop((iprop(Owes c e' ∗ cred (tallyAt (sdCell i s c) r.val (NS s))) -∗ Runs c (k ⟨⟩) Q)
        -∗ Runs c (.op (.enqueueDma src (.remote (Dev.tc n : Thread nD τ) dst (.dma q₁) hsc) (.dma q₂) hsrc hdst hsem) k) Q) := by
  subst ht hn hq₁ hq₂ hsrc' hdst'
  unfold Owes anyM toks owns
  iintro ⟨#HR, ⟨%W, HO⟩, ⟨%fs, %hfs, Hs⟩, ⟨%Y, %fd, -, Hd⟩, HF, ⟨Ht₁, Ht₂⟩, #Hr₁, #Hr₂⟩ Hk
  iapply (Rounds.wp_send_pointsTo_with Variants.none ER (Rd m) (c : Thread nD τ) none (κ₁ := N (c, sdSem i s)) (κ₂ := N (tgt i s c, rvSem i s))
    (c' := (tgt i s c : Thread nD τ)) (src := src) (dst := dst) (fs := fs) (fd := fd) (F := Fr) (q := fullShare)
    (r₁ := r.val) (r₂ := r.val) (d₁ := false) (d₂ := false) (hr := Topo.routes_tc c (tgt i s c))
    (mem_sd m c i s r.val r.isLt) (mem_rv m (tgt i s c) i s r.val r.isLt)
    r.val r.val (NS s) hN (amount_sd m c i s r.val false) (amount_rv m (tgt i s c) i s r.val false) (Ow c e') (Ow_step c i s r he he' hne) (W := W)
    (by rw [pay_sd]; refine BI.Entails.trans ?_ hp₁; rw [← hfs]; exact owns_intro (c : Thread nD τ) src fullShare fs)
    (by
      rw [pay_rv]
      refine BI.Entails.trans (BI.sep_mono ?_ (.refl _)) hp₂
      refine (owns_intro (tgt i s c : Thread nD τ) dst fullShare _).trans ?_
      rw [View.read_write_univ, hfs])) $$ [HO Hs Hd HF Ht₁ Ht₂]
  · isplitr; · iapply (inv_dma m N c _ (sdSem_ne i s)); iexact HR
    isplitr; · iapply (inv_dma m N (tgt i s c) _ (rvSem_ne i s)); iexact HR
    isplitl [Hs]; · iexact Hs
    isplitl [Hd HF]; · isplitl [Hd] <;> iassumption
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W; iexact HO
  iexact Hc

/-- The same when the source travels with the landing. -/
theorem send_landing {t : Dev nD} (ht : tgt i s c = t) (hn : n = t) (hq₁ : q₁ = sdSem i s) (hq₂ : q₂ = rvSem i s) (hsrc' : src = src') (hdst' : dst = dst')
    (hN : dst.view.dmaCredit = NS s)
    (he : e i = 10 * r.val + Cert.Quad.sp s) (he' : e' i = 10 * r.val + Cert.Quad.sp s + 1) (hne : ∀ j, j ≠ i → e' j = e j)
    {X : sh.Idx → Elt F et} {Fr : sProp 𝕄}
    (hp₁ : (emp : sProp 𝕄) ⊢ sdPay m i r.val c s)
    (hp₂ : iprop((owns (t : Thread nD τ) dst' fullShare X ∗ Fr) ∗ owns (c : Thread nD τ) src' fullShare X) ⊢ rvPay m i r.val t s)
    {Q : PUnit → sProp 𝕄} {hsc : (dst : Memref sig (Dev.tc n : Thread nD τ).2.kind sp' sh et).view.ref.isScScratch = false}
    {hsrc : src.view.WordExact} {hdst : dst.view.WordExact}
    {hsem : DmaTarget.Typed sp (.dma q₂) (.remote (Dev.tc n : Thread nD τ) dst (.dma q₁) hsc)} :
    iprop(recs m N ∗ Owes c e ∗ owns (c : Thread nD τ) src' fullShare X ∗ anyM t dst' ∗ Fr ∗ toks i s r.val c
        ∗ reached ER (sdCell i s c) r.val ∗ reached ER (rvCell i s t) r.val)
      ⊢ iprop((iprop(Owes c e' ∗ cred (tallyAt (sdCell i s c) r.val (NS s))) -∗ Runs c (k ⟨⟩) Q)
        -∗ Runs c (.op (.enqueueDma src (.remote (Dev.tc n : Thread nD τ) dst (.dma q₁) hsc) (.dma q₂) hsrc hdst hsem) k) Q) := by
  subst ht hn hq₁ hq₂ hsrc' hdst'
  unfold Owes anyM toks owns
  iintro ⟨#HR, ⟨%W, HO⟩, ⟨%fs, %hfs, Hs⟩, ⟨%Y, %fd, -, Hd⟩, HF, ⟨Ht₁, Ht₂⟩, #Hr₁, #Hr₂⟩ Hk
  iapply (Rounds.wp_send_landing_pointsTo_with Variants.none ER (Rd m) (c : Thread nD τ) none (κ₁ := N (c, sdSem i s)) (κ₂ := N (tgt i s c, rvSem i s))
    (c' := (tgt i s c : Thread nD τ)) (src := src) (dst := dst) (fs := fs) (fd := fd) (F := Fr) (q := fullShare)
    (r₁ := r.val) (r₂ := r.val) (d₁ := false) (d₂ := false) (hr := Topo.routes_tc c (tgt i s c))
    (mem_sd m c i s r.val r.isLt) (mem_rv m (tgt i s c) i s r.val r.isLt)
    r.val r.val (NS s) hN (amount_sd m c i s r.val false) (amount_rv m (tgt i s c) i s r.val false) (Ow c e') (Ow_step c i s r he he' hne) (W := W)
    (by rw [pay_sd]; exact hp₁)
    (by
      rw [pay_rv]
      refine BI.Entails.trans (sep_mono (BI.sep_mono ?_ (.refl _)) ?_) hp₂
      · refine (owns_intro (tgt i s c : Thread nD τ) dst fullShare _).trans ?_
        rw [View.read_write_univ, hfs]
      · rw [← hfs]; exact owns_intro (c : Thread nD τ) src fullShare fs)) $$ [HO Hs Hd HF Ht₁ Ht₂]
  · isplitr; · iapply (inv_dma m N c _ (sdSem_ne i s)); iexact HR
    isplitr; · iapply (inv_dma m N (tgt i s c) _ (rvSem_ne i s)); iexact HR
    isplitl [Hs]; · iexact Hs
    isplitl [Hd HF]; · isplitl [Hd] <;> iassumption
    isplitl [HO]; · iexact HO
    isplitl [Ht₁]; · iexact Ht₁
    isplitr; · iexact Hr₁
    isplitl [Ht₂]; · iexact Ht₂
    iexact Hr₂
  iintro ⟨Hc, HO⟩
  iapply Hk
  isplitl [HO]; · iexists W; iexact HO
  iexact Hc

end Send

/-! ## The copy of a chunk of the argument -/

theorem copy_in (N : Dev nD × Fin 37 → ℕ) (c : Dev nD) (i : Fin 4) (r : Fin 2) {q : DmaSem sig} (hq : q = ldSem i)
    {sh : Shape} {et : EltTy} {sp sp' : Space}
    {src src' : Memref sig .tc sp sh et} {dst dst' : Memref sig .tc sp' sh et} (hsrc' : src = src') (hdst' : dst = dst')
    (hN : dst.view.dmaCredit = NL) {Y : sh.Idx → Elt F et}
    (hp : iprop(owns (c : Thread nD τ) dst' fullShare Y ∗ owns (c : Thread nD τ) src' fullShare Y) ⊢ ldPay m i r.val c)
    {k : PUnit → Prog (TpuEff nD τ sig (Elt F) Λ₀ Proc.tc) PUnit} {Q : PUnit → sProp 𝕄}
    {hsrc : src.view.WordExact} {hdst : dst.view.WordExact}
    {hsem : DmaTarget.Typed (nD := nD) (τ := τ) (p := Proc.tc) sp (.dma q) (.here dst)} :
    iprop(recs m N ∗ owns (c : Thread nD τ) src' fullShare Y ∗ anyM c dst' ∗ dutyTok ER (ldCell i c) r.val false ∗ reached ER (ldCell i c) r.val)
      ⊢ iprop((cred (tallyAt (ldCell i c) r.val NL) -∗ Runs c (k ⟨⟩) Q)
        -∗ Runs c (.op (.enqueueDma src (.here dst) (.dma q) hsrc hdst hsem) k) Q) := by
  subst hq hsrc' hdst'
  unfold anyM owns
  iintro ⟨#HR, ⟨%fs, %hfs, Hs⟩, ⟨%Z, %fd, -, Hd⟩, Ht, #Hr⟩ Hk
  iapply (Rounds.wp_copy_pointsTo Variants.none ER (Rd m) (c : Thread nD τ) none (κ := N (c, ldSem i)) (fs := fs) (fd := fd) (q := fullShare)
    (r := r.val) (d := false) (mem_ld m c i r.val r.isLt) r.val NL hN (amount_ld m c i r.val false)
    (by
      rw [pay_ld]
      refine BI.Entails.trans (BI.sep_mono ?_ ?_) hp
      · refine (owns_intro (c : Thread nD τ) dst fullShare _).trans ?_
        rw [View.read_write_univ, hfs]
      · rw [← hfs]; exact owns_intro (c : Thread nD τ) src fullShare fs)) $$ [Hs Hd Ht]
  · isplitr; · iapply (inv_dma m N c _ (ldSem_ne i)); iexact HR
    isplitl [Hs]; · iexact Hs
    isplitl [Hd]; · iexact Hd
    isplitl [Ht]; · iexact Ht
    iexact Hr
  iexact Hk

end Cert.Quad

end
-- ==== Proof.Lane.lean ====
/-
What one lane of one device holds after each of its steps, and each step taken: an operation's rule at the
lane's cells and buffers.
-/
module

public import proofs.«01_k».proof.Proof.Ops

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Ownership in and out of the memrefs -/

omit [FloatOps F] in
theorem anyM_intro (c : Dev nD) {sp : Space} {s : Shape} {e : EltTy} (M : Memref sig .tc sp s e) (X : s.Idx → Elt F e) :
    (owns (c : Thread nD τ) M fullShare X : sProp 𝕄) ⊢ anyM c M := by
  unfold anyM; iintro H; iexists X; iexact H

omit [FloatOps F] in
theorem any_in128 (c : Dev nD) {lo : ℕ} (h : lo + 128 ≤ 4096) : (anyRows c lo 128 : sProp 𝕄) ⊢ anyM c (o128 lo h) := by
  unfold anyRows anyM
  iintro ⟨%f, H⟩
  iexists (o128 lo h).view.read (Elt F) f
  iapply (owns_intro (c : Thread nD τ) (o128 lo h) fullShare f)
  rw [o128_set h]; iexact H
omit [FloatOps F] in
theorem any_in256 (c : Dev nD) {lo : ℕ} (h : lo + 256 ≤ 4096) : (anyRows c lo 256 : sProp 𝕄) ⊢ anyM c (o256 lo h) := by
  unfold anyRows anyM
  iintro ⟨%f, H⟩
  iexists (o256 lo h).view.read (Elt F) f
  iapply (owns_intro (c : Thread nD τ) (o256 lo h) fullShare f)
  rw [o256_set h]; iexact H
omit [FloatOps F] in
theorem Rows_any (c : Dev nD) (lo n : ℕ) (G : ℕ → Fin 2048 → Elt F .bf16) : (Rows c lo n G : sProp 𝕄) ⊢ anyRows c lo n := by
  unfold Rows anyRows; iintro H; iexists buf G; iexact H
omit [FloatOps F] in
theorem Rows_congr (c : Dev nD) {lo n : ℕ} {G H : ℕ → Fin 2048 → Elt F .bf16} (h : ∀ a b, lo ≤ a ∧ a < lo + n → G a b = H a b) :
    (Rows c lo n G : sProp 𝕄) = Rows c lo n H := by
  unfold Rows
  exact pointsTo_congr fun x hx => h (x 0).val (x 1) ((mem_rset x).mp hx)

theorem kq_sq (i : Fin 4) (r : ℕ) (c : Dev nD) :
    (kq i r c = kp i r c ∧ sq i r c = kp i r c + 128) ∨ (kq i r c = kp i r c + 128 ∧ sq i r c = kp i r c) := by
  have := a2_le i c; unfold kq sq; omega

/-! ## What a lane holds -/

def pos (i s : Fin 4) (r : ℕ) (c : Dev nD) : sProp 𝕄 :=
  iprop(atPos ER (sdCell i s c) r ∅ 0 ∗ reached ER (sdCell i s c) r ∗ atPos ER (rvCell i s c) r ∅ 0 ∗ reached ER (rvCell i s c) r)
/-- What pays for step `s` of round `r`, and the credit of what it receives. -/
def kit (i s : Fin 4) (r : ℕ) (c : Dev nD) : sProp 𝕄 := iprop(toks i s r c ∗ cred (tallyAt (rvCell i s c) r (NS s)))
/-- Step `s` under way. -/
def fly (i s : Fin 4) (r : ℕ) (c : Dev nD) : sProp 𝕄 :=
  iprop(cred (tallyAt (sdCell i s c) r (NS s)) ∗ cred (tallyAt (rvCell i s c) r (NS s)))

/-- All a round needs that has not started. -/
def fut (i : Fin 4) (r : ℕ) (c : Dev nD) : sProp 𝕄 :=
  iprop(anyRows c (kp i r c) 256 ∗ anyRows (nb1 i c) (kp i r c) 256 ∗ kit i 0 r c ∗ kit i 1 r c ∗ kit i 2 r c ∗ kit i 3 r c)
/-- The finished chunk of a round. -/
def done (i : Fin 4) (r : ℕ) (c : Dev nD) : sProp 𝕄 := iprop(Rows c (kp i r c) 256 (OO m) ∗ Rows c (ot i r c) 256 (OO m))

/-- The rounds from `r` on, and those before. -/
def pend (i : Fin 4) (r : ℕ) (c : Dev nD) : sProp 𝕄 :=
  if r = 0 then iprop(fut i 0 c ∗ fut i 1 c) else if r = 1 then fut i 1 c else iprop(emp)
def past (i : Fin 4) (r : ℕ) (c : Dev nD) : sProp 𝕄 :=
  if r = 0 then iprop(emp) else if r = 1 then done m i 0 c else iprop(done m i 0 c ∗ done m i 1 c)

omit [FloatOps F] in
theorem pend_step (i : Fin 4) (r : Fin 2) (c : Dev nD) : (pend i r.val c : sProp 𝕄) ⊢ iprop(fut i r.val c ∗ pend i (r.val + 1) c) := by
  fin_cases r
  · exact BI.Entails.refl _
  · show fut i 1 c ⊢ iprop(fut i 1 c ∗ emp)
    iintro H; isplitl
    · iexact H
    · itrivial
theorem past_step (i : Fin 4) (r : Fin 2) (c : Dev nD) : iprop(done m i r.val c ∗ past m i r.val c) ⊢ (past m i (r.val + 1) c : sProp 𝕄) := by
  fin_cases r
  · show iprop(done m i 0 c ∗ emp) ⊢ done m i 0 c
    iintro ⟨H, -⟩; iexact H
  · show iprop(done m i 1 c ∗ done m i 0 c) ⊢ iprop(done m i 0 c ∗ done m i 1 c)
    iintro ⟨H, H'⟩; isplitl [H'] <;> iassumption

/-- Untouched before the last step of round `r`. -/
def base (i : Fin 4) (r : ℕ) (c : Dev nD) : sProp 𝕄 := iprop(pend i (r + 1) c ∗ past m i r c)
def last (i : Fin 4) (r : ℕ) (c : Dev nD) : sProp 𝕄 := iprop(anyRows (nb1 i c) (kp i r c) 256 ∗ kit i 3 r c ∗ base m i r c)

def E0 (i : Fin 4) (r : ℕ) (c : Dev nD) : sProp 𝕄 :=
  iprop(anyM c (stgS i) ∗ Give1 i r c ∗ Give2 i r c ∗ Keep1 i r c ∗ Keep2 i r c
    ∗ pos i 0 r c ∗ pos i 1 r c ∗ pos i 2 r c ∗ pos i 3 r c ∗ pend i r c ∗ past m i r c)
def E1 (i : Fin 4) (r : ℕ) (c : Dev nD) : sProp 𝕄 :=
  iprop(fly i 0 r c ∗ Give2 i r c ∗ pos i 0 r c ∗ pos i 1 r c ∗ pos i 2 r c ∗ pos i 3 r c
    ∗ anyRows c (kp i r c) 256 ∗ kit i 1 r c ∗ kit i 2 r c ∗ last m i r c)
def E2 (i : Fin 4) (r : ℕ) (c : Dev nD) : sProp 𝕄 :=
  iprop(anyM c (stgS i) ∗ owns (c : Thread nD τ) (r1S i) fullShare (rows (T m (nb1 i c)) (kp i r c)) ∗ reached ER (rvCell i 3 (nb1 i c)) r
    ∗ Give2 i r c ∗ pos i 0 (r + 1) c ∗ pos i 1 r c ∗ pos i 2 r c ∗ pos i 3 r c
    ∗ anyRows c (kp i r c) 256 ∗ kit i 1 r c ∗ kit i 2 r c ∗ last m i r c)
/-- What steps 3 to 9 keep. -/
def mid (i : Fin 4) (r : ℕ) (c : Dev nD) : sProp 𝕄 :=
  iprop(anyM c (stgS i) ∗ anyM c (r1S i) ∗ reached ER (rvCell i 3 (nb1 i c)) r ∗ pos i 0 (r + 1) c ∗ pos i 3 r c ∗ last m i r c)
def E3 (i : Fin 4) (r : ℕ) (c : Dev nD) : sProp 𝕄 :=
  iprop(mid m i r c ∗ Give2 i r c ∗ pos i 1 r c ∗ pos i 2 r c ∗ kit i 1 r c ∗ kit i 2 r c
    ∗ Rows c (kq i r c) 128 (K m i c) ∗ Rows c (sq i r c) 128 (K m i c))
def E4 (i : Fin 4) (r : ℕ) (c : Dev nD) : sProp 𝕄 :=
  iprop(mid m i r c ∗ fly i 1 r c ∗ pos i 1 r c ∗ pos i 2 r c ∗ kit i 2 r c ∗ Rows c (kq i r c) 128 (K m i c))
def E5 (i : Fin 4) (r : ℕ) (c : Dev nD) : sProp 𝕄 :=
  iprop(mid m i r c ∗ owns (c : Thread nD τ) (r2S i) fullShare (rows (K m i (nb2 i c)) (kq i r c)) ∗ anyRows (nb2 i c) (kq i r c) 128
    ∗ reached ER (rvCell i 2 (nb2 i c)) r ∗ pos i 1 (r + 1) c ∗ pos i 2 r c ∗ kit i 2 r c ∗ Rows c (kq i r c) 128 (K m i c))
def E6 (i : Fin 4) (r : ℕ) (c : Dev nD) : sProp 𝕄 :=
  iprop(mid m i r c ∗ anyM c (r2S i) ∗ anyRows (nb2 i c) (kq i r c) 128
    ∗ reached ER (rvCell i 2 (nb2 i c)) r ∗ pos i 1 (r + 1) c ∗ pos i 2 r c ∗ kit i 2 r c ∗ Rows c (kq i r c) 128 (OO m))
def E7 (i : Fin 4) (r : ℕ) (c : Dev nD) : sProp 𝕄 :=
  iprop(mid m i r c ∗ fly i 2 r c ∗ Keep2 i (r + 1) c ∗ pos i 1 (r + 1) c ∗ pos i 2 r c)
def E8 (i : Fin 4) (r : ℕ) (c : Dev nD) : sProp 𝕄 :=
  iprop(mid m i r c ∗ Rows c (kq i r c) 128 (OO m) ∗ Rows c (sq i r c) 128 (OO m) ∗ Give2 i (r + 1) c ∗ Keep2 i (r + 1) c
    ∗ pos i 1 (r + 1) c ∗ pos i 2 (r + 1) c)
def E9 (i : Fin 4) (r : ℕ) (c : Dev nD) : sProp 𝕄 :=
  iprop(anyM c (stgS i) ∗ fly i 3 r c ∗ Keep1 i (r + 1) c ∗ Give2 i (r + 1) c ∗ Keep2 i (r + 1) c
    ∗ pos i 0 (r + 1) c ∗ pos i 1 (r + 1) c ∗ pos i 2 (r + 1) c ∗ pos i 3 r c ∗ base m i r c)

/-! ## Waiting for a step -/

section Wait
variable (N : Dev nD × Fin 37 → ℕ) (c : Dev nD) (i s : Fin 4) (r : Fin 2) (e : Fin 4 → ℕ)

/-- Both waits of step `s`: the copy has left, and what the neighbour sent has landed. -/
theorem wait_step
    (hlev : ∀ p : Fin 4 × Fin 4 × Fin 2, pending e p → lvOf r.val (.sd i s) < 4 * (p.1.val / 2 + 2 * p.2.2.val) + p.2.1.val + 2
      ∧ lvOf r.val (.rv i s) < 4 * (p.1.val / 2 + 2 * p.2.2.val) + p.2.1.val + 2)
    {q₁ q₂ : DmaSem sig} (hq₁ : q₁ = sdSem i s) (hq₂ : q₂ = rvSem i s)
    {sp₁ sp₂ sp₃ sp₄ : Space} {s₁ s₂ s₃ s₄ : Shape} {t₁ t₂ t₃ t₄ : EltTy}
    {M₁ : Memref sig .tc sp₁ s₁ t₁} {M₂ : Memref sig .tc sp₂ s₂ t₂} {M₃ : Memref sig .tc sp₃ s₃ t₃} {M₄ : Memref sig .tc sp₄ s₄ t₄}
    (hn₂ : M₂.view.dmaCredit = NS s) (hn₄ : M₄.view.dmaCredit = NS s)
    {h₁ : M₁.view.WordExact} {h₂ : M₂.view.WordExact} {h₃ : M₃.view.WordExact} {h₄ : M₄.view.WordExact}
    {k : PUnit → Prog (TpuEff nD τ sig (Elt F) Λ₀ Proc.tc) PUnit} {Q : PUnit → sProp 𝕄} :
    iprop(recs m N ∗ Owes c e ∗ fly i s r.val c ∗ pos i s r.val c)
      ⊢ iprop((iprop(Owes c e ∗ sdPay m i r.val c s ∗ rvPay m i r.val c s ∗ pos i s (r.val + 1) c) -∗ Runs c (k ⟨⟩) Q)
        -∗ Runs c (.op (.waitDma2 q₁ M₁ M₂ h₁ h₂) fun _ => .op (.waitDma2 q₂ M₃ M₄ h₃ h₄) k) Q) := by
  unfold fly pos
  iintro ⟨#HR, HO, ⟨Hc₁, Hc₂⟩, Ha₁, -, Ha₂, -⟩ Hk
  iapply (wait_cell m N c (sdSem_ne i s) r.isLt (expect_sd m c i s r.val r.isLt) (rest_sd m c i s r.val r.isLt) e
    (fun p hp => by rw [role_sd]; exact (hlev p hp).1) hq₁ hn₂) $$ [HO Hc₁ Ha₁]
  · isplitr; · iexact HR
    isplitl [HO]; · iexact HO
    isplitl [Hc₁] <;> iassumption
  iintro ⟨HO, HP₁, Ha₁, #Hr₁⟩
  iapply (wait_cell m N c (rvSem_ne i s) r.isLt (expect_rv m c i s r.val r.isLt) (rest_rv m c i s r.val r.isLt) e
    (fun p hp => by rw [role_rv]; exact (hlev p hp).2) hq₂ hn₄) $$ [HO Hc₂ Ha₂]
  · isplitr; · iexact HR
    isplitl [HO]; · iexact HO
    isplitl [Hc₂] <;> iassumption
  iintro ⟨HO, HP₂, Ha₂, #Hr₂⟩
  iapply Hk
  isplitl [HO]; · iexact HO
  isplitl [HP₁]; · iexact HP₁
  isplitl [HP₂]; · iexact HP₂
  isplitl [Ha₁]; · iexact Ha₁
  isplitr; · iexact Hr₁
  isplitl [Ha₂]; · iexact Ha₂
  iexact Hr₂

/-- The lane after step `s` has come in. -/
def aft (i s : Fin 4) (r : ℕ) (c : Dev nD) : sProp 𝕄 :=
  match s with
  | 0 => E2 m i r c
  | 1 => E5 m i r c
  | 2 => E8 m i r c
  | 3 => E0 m i (r + 1) c
/-- The lane while step `s` is under way. -/
def bef (i s : Fin 4) (r : ℕ) (c : Dev nD) : sProp 𝕄 :=
  match s with
  | 0 => E1 m i r c
  | 1 => E4 m i r c
  | 2 => E7 m i r c
  | 3 => E9 m i r c

theorem bef_split : (bef m i s r.val c : sProp 𝕄) ⊢ iprop((fly i s r.val c ∗ pos i s r.val c)
    ∗ ((sdPay m i r.val c s ∗ rvPay m i r.val c s ∗ pos i s (r.val + 1) c) -∗ aft m i s r.val c)) := by
  fin_cases s
  · show E1 m i r.val c ⊢ iprop((fly i 0 r.val c ∗ pos i 0 r.val c) ∗ ((sdPay m i r.val c 0 ∗ rvPay m i r.val c 0 ∗ pos i 0 (r.val + 1) c) -∗ E2 m i r.val c))
    unfold E1 E2 sdPay rvPay
    iintro ⟨Hf, HG, H0, H1, H2, H3, Hk, K1, K2, HL⟩
    isplitl [Hf H0]; · isplitl [Hf] <;> iassumption
    iintro ⟨Ha, ⟨Hb, Hc⟩, Hd⟩
    isplitl [Ha]; · iexact Ha
    isplitl [Hb]; · iexact Hb
    isplitl [Hc]; · iexact Hc
    isplitl [HG]; · iexact HG
    isplitl [Hd]; · iexact Hd
    isplitl [H1]; · iexact H1
    isplitl [H2]; · iexact H2
    isplitl [H3]; · iexact H3
    isplitl [Hk]; · iexact Hk
    isplitl [K1]; · iexact K1
    isplitl [K2] <;> iassumption
  · show E4 m i r.val c ⊢ iprop((fly i 1 r.val c ∗ pos i 1 r.val c) ∗ ((sdPay m i r.val c 1 ∗ rvPay m i r.val c 1 ∗ pos i 1 (r.val + 1) c) -∗ E5 m i r.val c))
    unfold E4 E5 sdPay rvPay
    iintro ⟨HM, Hf, H1, H2, K2, Hq⟩
    isplitl [Hf H1]; · isplitl [Hf] <;> iassumption
    iintro ⟨-, ⟨Hb, Hc, He⟩, Hd⟩
    isplitl [HM]; · iexact HM
    isplitl [Hb]; · iexact Hb
    isplitl [Hc]; · iexact Hc
    isplitl [He]; · iexact He
    isplitl [Hd]; · iexact Hd
    isplitl [H2]; · iexact H2
    isplitl [K2] <;> iassumption
  · show E7 m i r.val c ⊢ iprop((fly i 2 r.val c ∗ pos i 2 r.val c) ∗ ((sdPay m i r.val c 2 ∗ rvPay m i r.val c 2 ∗ pos i 2 (r.val + 1) c) -∗ E8 m i r.val c))
    unfold E7 E8 sdPay rvPay
    iintro ⟨HM, Hf, HK, H1, H2⟩
    isplitl [Hf H2]; · isplitl [Hf] <;> iassumption
    iintro ⟨Ha, ⟨Hb, Hc⟩, Hd⟩
    isplitl [HM]; · iexact HM
    isplitl [Ha]; · iexact Ha
    isplitl [Hb]; · iexact Hb
    isplitl [Hc]; · iexact Hc
    isplitl [HK]; · iexact HK
    isplitl [H1] <;> iassumption
  · show E9 m i r.val c ⊢ iprop((fly i 3 r.val c ∗ pos i 3 r.val c) ∗ ((sdPay m i r.val c 3 ∗ rvPay m i r.val c 3 ∗ pos i 3 (r.val + 1) c) -∗ E0 m i (r.val + 1) c))
    unfold E9 E0 sdPay rvPay base
    iintro ⟨Hs, Hf, HK, HG, HK2, H0, H1, H2, H3, HP, HD⟩
    isplitl [Hf H3]; · isplitl [Hf] <;> iassumption
    iintro ⟨Ha, ⟨Hb, Hc⟩, Hd⟩
    isplitl [Hs]; · iexact Hs
    isplitl [Hc]; · iexact Hc
    isplitl [HG]; · iexact HG
    isplitl [HK]; · iexact HK
    isplitl [HK2]; · iexact HK2
    isplitl [H0]; · iexact H0
    isplitl [H1]; · iexact H1
    isplitl [H2]; · iexact H2
    isplitl [Hd]; · iexact Hd
    isplitl [HP]; · iexact HP
    iapply (past_step m i r c)
    unfold done
    isplitl [Ha Hb]; · isplitl [Ha] <;> iassumption
    iexact HD

end Wait

end Cert.Quad

end
-- ==== Proof.Lane2.lean ====
/-
The sends and the sums of a lane.
-/
module

public import proofs.«01_k».proof.Proof.Lane

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Memrefs from the offsets the program computes -/

theorem o128_of {o : Fin 2 → ℕ} {lo : ℕ} (ho : o = ![lo, 0]) (h : lo + 128 ≤ 4096)
    {hin : ∀ a, o a + S128x2048.size a ≤ S4096x2048.size a} {hr : ∀ a, (Rect.unit (s := S4096x2048) o S128x2048.size hin).stride a = 1} :
    oM.slice (Rect.unit (s := S4096x2048) o S128x2048.size hin) hr = o128 lo h := by
  subst ho; rfl
theorem o256_of {o : Fin 2 → ℕ} {lo : ℕ} (ho : o = ![lo, 0]) (h : lo + 256 ≤ 4096)
    {hin : ∀ a, o a + S256x2048.size a ≤ S4096x2048.size a} {hr : ∀ a, (Rect.unit (s := S4096x2048) o S256x2048.size hin).stride a = 1} :
    oM.slice (Rect.unit (s := S4096x2048) o S256x2048.size hin) hr = o256 lo h := by
  subst ho; rfl

/-! ## What a device gives back -/

omit [FloatOps F] in
theorem give1 (i : Fin 4) (r : ℕ) (c : Dev nD) :
    iprop(anyM c (r1S i) ∗ reached ER (rvCell i 0 c) r) ⊢ (iprop(Give1 i r (nb1 i c) ∗ Keep1 i r c) : sProp 𝕄) := by
  unfold Give1 Keep1
  rw [nb1_nb1]
  by_cases h : r < 2
  · rw [if_pos h, if_pos h]
    iintro H; isplitl
    · iexact H
    · itrivial
  · rw [if_neg h, if_neg h]
    iintro ⟨H, -⟩; isplitr
    · itrivial
    · iexact H
omit [FloatOps F] in
theorem give2 (i : Fin 4) (r : ℕ) (c : Dev nD) :
    iprop(anyM c (r2S i) ∗ reached ER (rvCell i 1 c) r) ⊢ (iprop(Give2 i r (nb2 i c) ∗ Keep2 i r c) : sProp 𝕄) := by
  unfold Give2 Keep2
  rw [nb2_nb2]
  by_cases h : r < 2
  · rw [if_pos h, if_pos h]
    iintro H; isplitl
    · iexact H
    · itrivial
  · rw [if_neg h, if_neg h]
    iintro ⟨H, -⟩; isplitr
    · itrivial
    · iexact H
omit [FloatOps F] in
theorem Give1_lt (i : Fin 4) (r : Fin 2) (c : Dev nD) :
    (Give1 i r.val c : sProp 𝕄) = iprop(anyM (nb1 i c) (r1S i) ∗ reached ER (rvCell i 0 (nb1 i c)) r.val) := if_pos r.isLt
omit [FloatOps F] in
theorem Give2_lt (i : Fin 4) (r : Fin 2) (c : Dev nD) :
    (Give2 i r.val c : sProp 𝕄) = iprop(anyM (nb2 i c) (r2S i) ∗ reached ER (rvCell i 1 (nb2 i c)) r.val) := if_pos r.isLt

/-! ## The sends -/

section Sends
variable (N : Dev nD × Fin 37 → ℕ) (c : Dev nD) (i : Fin 4) (r : Fin 2) {e e' : Fin 4 → ℕ}
  {n : Dev nD} {q₁ q₂ : DmaSem sig} {k : PUnit → Prog (TpuEff nD τ sig (Elt F) Λ₀ Proc.tc) PUnit}

/-- Step 1: the quarter the device does not keep. -/
theorem send1 (hn : n = nb2 i c) (hq₁ : q₁ = sdSem i 1) (hq₂ : q₂ = rvSem i 1)
    {src : Memref sig .tc .vmem S128x2048 .bf16} {dst : Memref sig .tc .vmem S128x2048 .bf16}
    (hsrc' : src = o128 (sq i r.val c) (sq_le i r.val c)) (hdst' : dst = r2S i)
    (he : e i = 10 * r.val + 3) (he' : e' i = 10 * r.val + 3 + 1) (hne : ∀ j, j ≠ i → e' j = e j)
    {Q : PUnit → sProp 𝕄} {hsc : (dst : Memref sig (Dev.tc n : Thread nD τ).2.kind .vmem S128x2048 .bf16).view.ref.isScScratch = false}
    {hsrc : src.view.WordExact} {hdst : dst.view.WordExact}
    {hsem : DmaTarget.Typed .vmem (.dma q₂) (.remote (Dev.tc n : Thread nD τ) dst (.dma q₁) hsc)} :
    iprop(recs m N ∗ Owes c e ∗ E3 m i r.val c)
      ⊢ iprop((iprop(Owes c e' ∗ E4 m i r.val c) -∗ Runs c (k ⟨⟩) Q)
        -∗ Runs c (.op (.enqueueDma src (.remote (Dev.tc n : Thread nD τ) dst (.dma q₁) hsc) (.dma q₂) hsrc hdst hsem) k) Q) := by
  unfold E3
  rw [Give2_lt]
  unfold kit
  iintro ⟨#HR, HO, HM, ⟨HG, #Hg⟩, H1, H2, ⟨HK, Hcr⟩, K2, Hq, Hs⟩ Hk
  unfold pos
  icases H1 with ⟨P1, #P2, P3, #P4⟩
  icases H2 with ⟨P5, #P6, P7, #P8⟩
  iapply (send_landing m N c i 1 r (t := nb2 i c) rfl hn hq₁ hq₂ hsrc' hdst' (by rw [hdst']; rfl) he he' hne (X := rows (K m i c) (sq i r.val c))
    (Fr := reached ER (rvCell i 2 c) r.val) (BI.Entails.refl _)
    (by
      unfold rvPay
      rw [nb2_nb2, kq_nb2]
      iintro ⟨⟨Ha, Hb⟩, Hc⟩
      isplitl [Ha]; · iexact Ha
      isplitl [Hc]
      · iapply (Rows_any c (sq i r.val c) 128 (K m i c)); iapply (o128_out c (sq_le i r.val c)); iexact Hc
      · iexact Hb)) $$ [HO HG HK Hs]
  · isplitr; · iexact HR
    isplitl [HO]; · iexact HO
    isplitl [Hs]; · iapply (o128_in c (sq_le i r.val c)); iexact Hs
    isplitl [HG]; · iexact HG
    isplitr; · iexact P8
    isplitl [HK]; · iexact HK
    isplitr; · iexact P2
    iexact Hg
  iintro ⟨HO, Hc⟩
  iapply Hk
  isplitl [HO]; · iexact HO
  unfold E4 fly pos kit
  isplitl [HM]; · iexact HM
  isplitl [Hc Hcr]; · isplitl [Hc] <;> iassumption
  isplitl [P1 P3]
  · isplitl [P1]; · iexact P1
    isplitr; · iexact P2
    isplitl [P3]; · iexact P3
    iexact P4
  isplitl [P5 P7]
  · isplitl [P5]; · iexact P5
    isplitr; · iexact P6
    isplitl [P7]; · iexact P7
    iexact P8
  isplitl [K2] <;> iassumption

/-- Step 2: the finished quarter. -/
theorem send2 (hn : n = nb2 i c) (hq₁ : q₁ = sdSem i 2) (hq₂ : q₂ = rvSem i 2)
    {src : Memref sig .tc .vmem S128x2048 .bf16} {dst : Memref sig .tc .vmem S128x2048 .bf16}
    (hsrc' : src = o128 (kq i r.val c) (kq_le i r.val c)) (hdst' : dst = o128 (kq i r.val c) (kq_le i r.val c))
    (he : e i = 10 * r.val + 6) (he' : e' i = 10 * r.val + 6 + 1) (hne : ∀ j, j ≠ i → e' j = e j)
    {Q : PUnit → sProp 𝕄} {hsc : (dst : Memref sig (Dev.tc n : Thread nD τ).2.kind .vmem S128x2048 .bf16).view.ref.isScScratch = false}
    {hsrc : src.view.WordExact} {hdst : dst.view.WordExact}
    {hsem : DmaTarget.Typed .vmem (.dma q₂) (.remote (Dev.tc n : Thread nD τ) dst (.dma q₁) hsc)} :
    iprop(recs m N ∗ Owes c e ∗ E6 m i r.val c)
      ⊢ iprop((iprop(Owes c e' ∗ E7 m i r.val c) -∗ Runs c (k ⟨⟩) Q)
        -∗ Runs c (.op (.enqueueDma src (.remote (Dev.tc n : Thread nD τ) dst (.dma q₁) hsc) (.dma q₂) hsrc hdst hsem) k) Q) := by
  unfold E6 kit
  iintro ⟨#HR, HO, HM, Hr2, Hn, #Ht, H1, H2, ⟨HK, Hcr⟩, Hq⟩ Hk
  unfold pos
  icases H1 with ⟨P1, #P2, P3, #P4⟩
  icases H2 with ⟨P5, #P6, P7, #P8⟩
  ihave HGK := (give2 i (r.val + 1) c) $$ [Hr2]
  · isplitl [Hr2]; · iexact Hr2
    iexact P4
  icases HGK with ⟨HG, HKeep⟩
  iapply (send_with m N c i 2 r (t := nb2 i c) rfl hn hq₁ hq₂ hsrc' hdst' (by rw [hdst']; rfl) he he' hne (X := rows (OO m) (kq i r.val c))
    (Fr := Give2 i (r.val + 1) (nb2 i c)) (o128_out c (kq_le i r.val c) (OO m))
    (by
      unfold rvPay
      rw [sq_nb2]
      iintro ⟨Ha, Hb⟩
      isplitl [Ha]
      · iapply (o128_out (nb2 i c) (kq_le i r.val c)); iexact Ha
      · iexact Hb)) $$ [HO HG HK Hq Hn]
  · isplitr; · iexact HR
    isplitl [HO]; · iexact HO
    isplitl [Hq]; · iapply (o128_in c (kq_le i r.val c)); iexact Hq
    isplitl [Hn]; · iapply (any_in128 (nb2 i c) (kq_le i r.val c)); iexact Hn
    isplitl [HG]; · iexact HG
    isplitl [HK]; · iexact HK
    isplitr; · iexact P6
    iexact Ht
  iintro ⟨HO, Hc⟩
  iapply Hk
  isplitl [HO]; · iexact HO
  unfold E7 fly pos
  isplitl [HM]; · iexact HM
  isplitl [Hc Hcr]; · isplitl [Hc] <;> iassumption
  isplitl [HKeep]; · iexact HKeep
  isplitl [P1 P3]
  · isplitl [P1]; · iexact P1
    isplitr; · iexact P2
    isplitl [P3]; · iexact P3
    iexact P4
  isplitl [P5]; · iexact P5
  isplitr; · iexact P6
  isplitl [P7]; · iexact P7
  iexact P8

/-- Step 3: the finished half. -/
theorem send3 (hn : n = nb1 i c) (hq₁ : q₁ = sdSem i 3) (hq₂ : q₂ = rvSem i 3)
    {src : Memref sig .tc .vmem S256x2048 .bf16} {dst : Memref sig .tc .vmem S256x2048 .bf16}
    (hsrc' : src = o256 (kp i r.val c) (kp_le i r.val c)) (hdst' : dst = o256 (kp i r.val c) (kp_le i r.val c))
    (he : e i = 10 * r.val + 8) (he' : e' i = 10 * r.val + 8 + 1) (hne : ∀ j, j ≠ i → e' j = e j)
    {Q : PUnit → sProp 𝕄} {hsc : (dst : Memref sig (Dev.tc n : Thread nD τ).2.kind .vmem S256x2048 .bf16).view.ref.isScScratch = false}
    {hsrc : src.view.WordExact} {hdst : dst.view.WordExact}
    {hsem : DmaTarget.Typed .vmem (.dma q₂) (.remote (Dev.tc n : Thread nD τ) dst (.dma q₁) hsc)} :
    iprop(recs m N ∗ Owes c e ∗ E8 m i r.val c)
      ⊢ iprop((iprop(Owes c e' ∗ E9 m i r.val c) -∗ Runs c (k ⟨⟩) Q)
        -∗ Runs c (.op (.enqueueDma src (.remote (Dev.tc n : Thread nD τ) dst (.dma q₁) hsc) (.dma q₂) hsrc hdst hsem) k) Q) := by
  unfold E8 mid last kit
  iintro ⟨#HR, HO, ⟨HM, Hr1, #Ht, H0, H3, Hn, ⟨HK, Hcr⟩, HB⟩, Hq, Hs, HG2, HK2, H1, H2⟩ Hk
  unfold pos
  icases H0 with ⟨P1, #P2, P3, #P4⟩
  icases H3 with ⟨P5, #P6, P7, #P8⟩
  ihave HGK := (give1 i (r.val + 1) c) $$ [Hr1]
  · isplitl [Hr1]; · iexact Hr1
    iexact P4
  icases HGK with ⟨HG, HKeep⟩
  iapply (send_with m N c i 3 r (t := nb1 i c) rfl hn hq₁ hq₂ hsrc' hdst' (by rw [hdst']; rfl) he he' hne (X := rows (OO m) (kp i r.val c))
    (Fr := Give1 i (r.val + 1) (nb1 i c)) (o256_out c (kp_le i r.val c) (OO m))
    (by
      unfold rvPay
      rw [ot_nb1]
      iintro ⟨Ha, Hb⟩
      isplitl [Ha]
      · iapply (o256_out (nb1 i c) (kp_le i r.val c)); iexact Ha
      · iexact Hb)) $$ [HO HG HK Hq Hs Hn]
  · isplitr; · iexact HR
    isplitl [HO]; · iexact HO
    isplitl [Hq Hs]
    · iapply (o256_in c (kp_le i r.val c))
      iapply (Rows_split c (kq_sq i r.val c) (OO m)).2
      isplitl [Hq] <;> iassumption
    isplitl [Hn]; · iapply (any_in256 (nb1 i c) (kp_le i r.val c)); iexact Hn
    isplitl [HG]; · iexact HG
    isplitl [HK]; · iexact HK
    isplitr; · iexact P6
    iexact Ht
  iintro ⟨HO, Hc⟩
  iapply Hk
  isplitl [HO]; · iexact HO
  unfold E9 fly pos
  isplitl [HM]; · iexact HM
  isplitl [Hc Hcr]; · isplitl [Hc] <;> iassumption
  isplitl [HKeep]; · iexact HKeep
  isplitl [HG2]; · iexact HG2
  isplitl [HK2]; · iexact HK2
  isplitl [P1 P3]
  · isplitl [P1]; · iexact P1
    isplitr; · iexact P2
    isplitl [P3]; · iexact P3
    iexact P4
  isplitl [H1]; · iexact H1
  isplitl [H2]; · iexact H2
  isplitl [P5 P7]
  · isplitl [P5]; · iexact P5
    isplitr; · iexact P6
    isplitl [P7]; · iexact P7
    iexact P8
  iexact HB

end Sends

end Cert.Quad

end
-- ==== Proof.Lane3.lean ====
/-
The steps of a lane that compute: the half it sends narrowed, and the two sums; and the copies of its chunks of
the argument.
-/
module

public import proofs.«01_k».proof.Proof.Lane2

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

omit [FloatOps F] in
theorem anyM_elim (c : Dev nD) {sp : Space} {s : Shape} {e : EltTy} (M : Memref sig .tc sp s e) :
    (anyM c M : sProp 𝕄) ⊢ iprop(∃ X, owns (c : Thread nD τ) M fullShare X) := by
  unfold anyM; exact BI.Entails.refl _

/-! ## Values -/

/-- A half of a chunk, narrowed, is the rows of the narrowed argument. -/
theorem narrow_half (i : Fin 4) (r : ℕ) (c : Dev nD) {lo : ℕ} (h : lo + 256 ≤ 512) :
    (truncf .bf16 (half lo h (xrows m c (bs i r))) bitsLt_bf16_f32 : FVec F S256x2048 .bf16) = rows (T m c) (bs i r + lo) := by
  funext j
  show FloatOps.truncf .bf16 bitsLt_bf16_f32 (X m c (bs i r + (lo + (j 0).val)) (j 1)) = FloatOps.truncf .bf16 bitsLt_bf16_f32 (X m c (bs i r + lo + (j 0).val) (j 1))
  rw [Nat.add_assoc]

theorem keep_lo (i : Fin 4) (c : Dev nD) : 256 * a1 i c + 256 ≤ 512 := by have := a1_le i c; omega
theorem send_lo (i : Fin 4) (c : Dev nD) : 256 * (1 - a1 i c) + 256 ≤ 512 := by have := a1_le i c; omega

/-- A chunk of the argument in the slot of lane `i`. -/
def chunk (i : Fin 4) (r : ℕ) (c : Dev nD) : sProp 𝕄 := owns (c : Thread nD τ) (xinS i) fullShare (xrows m c (bs i r))

section Steps
variable (N : Dev nD × Fin 37 → ℕ) (c : Dev nD) (i : Fin 4) (r : Fin 2) {e e' : Fin 4 → ℕ}
  {n : Dev nD} {q₁ q₂ : DmaSem sig} {k : PUnit → Prog (TpuEff nD τ sig (Elt F) Λ₀ Proc.tc) PUnit}

/-- Step 0: the half the device does not keep, narrowed and sent. -/
theorem send0 (hn : n = nb1 i c) (hq₁ : q₁ = sdSem i 0) (hq₂ : q₂ = rvSem i 0)
    {src : Memref sig .tc .vmem S256x2048 .bf16} {dst : Memref sig .tc .vmem S256x2048 .bf16}
    (hsrc' : src = stgS i) (hdst' : dst = r1S i)
    (he : e i = 10 * r.val + 0) (he' : e' i = 10 * r.val + 0 + 1) (hne : ∀ j, j ≠ i → e' j = e j)
    {o₁ o₂ : Fin 4 → ℕ} (ho₁ : o₁ = ![i.val / 2, i.val % 2, 256 * (1 - a1 i c), 0]) (ho₂ : o₂ = ![i.val / 2, i.val % 2, 0, 0])
    {hin₁ : ∀ a, o₁ a + S1x1x256x2048.size a ≤ S2x2x512x2048.size a} {hin₂ : ∀ a, o₂ a + S1x1x256x2048.size a ≤ S2x2x256x2048.size a}
    {hl₁ : xinB.view.LoadsAt (Rect.unit (s := S2x2x512x2048) o₁ S1x1x256x2048.size hin₁).toLoadRect}
    {hl₂ : stgB.view.LoadsAt (Rect.unit (s := S2x2x256x2048) o₂ S1x1x256x2048.size hin₂).toLoadRect}
    {hx : (stgB.access (Rect.unit (s := S2x2x256x2048) o₂ S1x1x256x2048.size hin₂)).Stores Finset.univ}
    {pay : (S1x1x256x2048.Idx → Elt F .f32) → S1x1x256x2048.Idx → Elt F .bf16}
    (hpay : ∀ v, pay v = shapeCast S1x1x256x2048 (truncf .bf16 (shapeCast S256x2048 v (by decide)) bitsLt_bf16_f32 : FVec F S256x2048 .bf16) (by decide))
    {Q : PUnit → sProp 𝕄} {hsc : (dst : Memref sig (Dev.tc n : Thread nD τ).2.kind .vmem S256x2048 .bf16).view.ref.isScScratch = false}
    {hsrc : src.view.WordExact} {hdst : dst.view.WordExact}
    {hsem : DmaTarget.Typed .vmem (.dma q₂) (.remote (Dev.tc n : Thread nD τ) dst (.dma q₁) hsc)} :
    iprop(recs m N ∗ Owes c e ∗ chunk m i r.val c ∗ E0 m i r.val c)
      ⊢ iprop((iprop(Owes c e' ∗ chunk m i r.val c ∗ E1 m i r.val c) -∗ Runs c (k ⟨⟩) Q)
        -∗ Runs c (.op (.load xinB (Rect.unit (s := S2x2x512x2048) o₁ S1x1x256x2048.size hin₁).toLoadRect hl₁) fun v =>
          .op (.load stgB (Rect.unit (s := S2x2x256x2048) o₂ S1x1x256x2048.size hin₂).toLoadRect hl₂) fun _ =>
          .op (.store stgB (Rect.unit (s := S2x2x256x2048) o₂ S1x1x256x2048.size hin₂) (pay v) Finset.univ hx (.inl rfl)) fun _ =>
          .op (.enqueueDma src (.remote (Dev.tc n : Thread nD τ) dst (.dma q₁) hsc) (.dma q₂) hsrc hdst hsem) k) Q) := by
  subst ho₂
  have hw : shapeCast S256x2048 (pay (shapeCast S1x1x256x2048 (half (256 * (1 - a1 i c)) (send_lo i c) (xrows m c (bs i r.val))) (by decide)))
      (show S1x1x256x2048.ShapeCasts S256x2048 by decide) = rows (T m c) (ot i r.val c) := by
    rw [hpay, shapeCast_shapeCast, shapeCast_shapeCast, narrow_half]; rfl
  unfold E0 chunk
  rw [Give1_lt]
  unfold Keep1 Keep2
  rw [if_pos r.isLt, if_pos r.isLt]
  iintro ⟨#HR, HO, HX, HS, ⟨HG, #Hg⟩, HG2, -, -, H0, H1, H2, H3, HP, HD⟩ Hk
  unfold pos
  icases H0 with ⟨P1, #P2, P3, #P4⟩
  icases H3 with ⟨P5, #P6, P7, #P8⟩
  ihave HP' := (pend_step i r c) $$ HP
  icases HP' with ⟨HF, HP⟩
  unfold fut
  icases HF with ⟨Hkp, Hkp', HK0, HK1, HK2, HK3⟩
  unfold kit
  icases HK0 with ⟨HK, Hcr⟩
  iapply (half_slot c i (send_lo i c) ho₁) $$ HX
  iintro HX
  ihave HS := (anyM_elim c (stgS i)) $$ HS
  icases HS with ⟨%Y, HS⟩
  iapply (load_slot_as c (show (stgB.slice (Rect.unit (s := S2x2x256x2048) ![i.val / 2, i.val % 2, 0, 0] S1x1x256x2048.size hin₂) (fun _ => rfl)).squeeze S256x2048 squeezes_S1x1x256x2048_S256x2048 = stgS i from rfl)
    (show S1x1x256x2048.ShapeCasts S256x2048 by decide) (show S256x2048.ShapeCasts S1x1x256x2048 by decide) (X := Y)) $$ HS
  iintro HS
  iapply (store_slot_as c (show (stgB.slice (Rect.unit (s := S2x2x256x2048) ![i.val / 2, i.val % 2, 0, 0] S1x1x256x2048.size hin₂) (fun _ => rfl)).squeeze S256x2048 squeezes_S1x1x256x2048_S256x2048 = stgS i from rfl)
    (show S1x1x256x2048.ShapeCasts S256x2048 by decide) (X := Y)) $$ HS
  iintro HS
  iapply (send_with m N c i 0 r (t := nb1 i c) rfl hn hq₁ hq₂ hsrc' hdst' (by rw [hdst']; rfl) he he' hne (X := rows (T m c) (ot i r.val c))
    (Fr := reached ER (rvCell i 3 c) r.val) (anyM_intro c (stgS i) _)
    (by
      unfold rvPay
      rw [nb1_nb1, kp_nb1])) $$ [HO HG HK HS]
  · isplitr; · iexact HR
    isplitl [HO]; · iexact HO
    isplitl [HS]; · rw [← hw]; iexact HS
    isplitl [HG]; · iexact HG
    isplitr; · iexact P8
    isplitl [HK]; · iexact HK
    isplitr; · iexact P2
    iexact Hg
  iintro ⟨HO, Hc⟩
  iapply Hk
  isplitl [HO]; · iexact HO
  isplitl [HX]; · iexact HX
  unfold E1 fly pos last base kit
  isplitl [Hc Hcr]; · isplitl [Hc] <;> iassumption
  isplitl [HG2]; · iexact HG2
  isplitl [P1 P3]
  · isplitl [P1]; · iexact P1
    isplitr; · iexact P2
    isplitl [P3]; · iexact P3
    iexact P4
  isplitl [H1]; · iexact H1
  isplitl [H2]; · iexact H2
  isplitl [P5 P7]
  · isplitl [P5]; · iexact P5
    isplitr; · iexact P6
    isplitl [P7]; · iexact P7
    iexact P8
  isplitl [Hkp]; · iexact Hkp
  isplitl [HK1]; · iexact HK1
  isplitl [HK2]; · iexact HK2
  isplitl [Hkp']; · iexact Hkp'
  isplitl [HK3]; · iexact HK3
  isplitl [HP] <;> iassumption

/-- The sum over the first pair, of the half the device keeps. -/
theorem sum1 {o₁ o₂ : Fin 4 → ℕ} {o₃ : Fin 2 → ℕ} (ho₁ : o₁ = ![i.val / 2, i.val % 2, 256 * a1 i c, 0]) (ho₂ : o₂ = ![i.val / 2, i.val % 2, 0, 0])
    (ho₃ : o₃ = ![kp i r.val c, 0])
    {hin₁ : ∀ a, o₁ a + S1x1x256x2048.size a ≤ S2x2x512x2048.size a} {hin₂ : ∀ a, o₂ a + S1x1x256x2048.size a ≤ S2x2x256x2048.size a}
    {hin₃ : ∀ a, o₃ a + S256x2048.size a ≤ S4096x2048.size a}
    {hl₁ : xinB.view.LoadsAt (Rect.unit (s := S2x2x512x2048) o₁ S1x1x256x2048.size hin₁).toLoadRect}
    {hl₂ : r1B.view.LoadsAt (Rect.unit (s := S2x2x256x2048) o₂ S1x1x256x2048.size hin₂).toLoadRect}
    {hl₃ : oM.view.LoadsAt (Rect.unit (s := S4096x2048) o₃ S256x2048.size hin₃).toLoadRect}
    {hx : (oM.access (Rect.unit (s := S4096x2048) o₃ S256x2048.size hin₃)).Stores Finset.univ}
    {pay : (S1x1x256x2048.Idx → Elt F .f32) → (S1x1x256x2048.Idx → Elt F .bf16) → S256x2048.Idx → Elt F .bf16}
    (hpay : ∀ v w, pay v w = (addf (truncf .bf16 (shapeCast S256x2048 v (by decide)) bitsLt_bf16_f32 : FVec F S256x2048 .bf16)
      (shapeCast S256x2048 w (by decide)) : FVec F S256x2048 .bf16)) {Q : PUnit → sProp 𝕄} :
    iprop(chunk m i r.val c ∗ E2 m i r.val c)
      ⊢ iprop((iprop(chunk m i r.val c ∗ E3 m i r.val c) -∗ Runs c (k ⟨⟩) Q)
        -∗ Runs c (.op (.load xinB (Rect.unit (s := S2x2x512x2048) o₁ S1x1x256x2048.size hin₁).toLoadRect hl₁) fun v =>
          .op (.load r1B (Rect.unit (s := S2x2x256x2048) o₂ S1x1x256x2048.size hin₂).toLoadRect hl₂) fun w =>
          .op (.load oM (Rect.unit (s := S4096x2048) o₃ S256x2048.size hin₃).toLoadRect hl₃) fun _ =>
          .op (.store oM (Rect.unit (s := S4096x2048) o₃ S256x2048.size hin₃) (pay v w) Finset.univ hx (.inl rfl)) k) Q) := by
  subst ho₂ ho₃
  have hw : pay (shapeCast S1x1x256x2048 (half (256 * a1 i c) (keep_lo i c) (xrows m c (bs i r.val))) (by decide))
      (shapeCast S1x1x256x2048 (rows (T m (nb1 i c)) (kp i r.val c) : S256x2048.Idx → Elt F .bf16) (by decide)) = rows (K m i c) (kp i r.val c) := by
    rw [hpay, shapeCast_shapeCast, shapeCast_shapeCast, narrow_half]; rfl
  unfold E2 chunk
  iintro ⟨HX, HS, HR1, Ht, HG2, H0, H1, H2, H3, Hkp, HK1, HK2, HL⟩ Hk
  iapply (half_slot c i (keep_lo i c) ho₁) $$ HX
  iintro HX
  iapply (load_slot_as c (show (r1B.slice (Rect.unit (s := S2x2x256x2048) ![i.val / 2, i.val % 2, 0, 0] S1x1x256x2048.size hin₂) (fun _ => rfl)).squeeze S256x2048 squeezes_S1x1x256x2048_S256x2048 = r1S i from rfl)
    (show S1x1x256x2048.ShapeCasts S256x2048 by decide) (show S256x2048.ShapeCasts S1x1x256x2048 by decide)
    (X := rows (T m (nb1 i c)) (kp i r.val c))) $$ HR1
  iintro HR1
  ihave Hkp := (any_in256 c (kp_le i r.val c)) $$ Hkp
  unfold anyM
  icases Hkp with ⟨%Y, Hkp⟩
  iapply (load_rows_as c (o256_of (hin := hin₃) (hr := fun _ => rfl) rfl (kp_le i r.val c)) (X := Y)) $$ Hkp
  iintro Hkp
  iapply (store_rows_as c (o256_of (hin := hin₃) (hr := fun _ => rfl) rfl (kp_le i r.val c)) (X := Y)) $$ Hkp
  iintro Hkp
  iapply Hk
  isplitl [HX]; · iexact HX
  unfold E3 mid anyM
  isplitl [HS HR1 Ht H0 H3 HL]
  · isplitl [HS]; · iexact HS
    isplitl [HR1]; · iexists _; iexact HR1
    isplitl [Ht]; · iexact Ht
    isplitl [H0]; · iexact H0
    isplitl [H3] <;> iassumption
  isplitl [HG2]; · iexact HG2
  isplitl [H1]; · iexact H1
  isplitl [H2]; · iexact H2
  isplitl [HK1]; · iexact HK1
  isplitl [HK2]; · iexact HK2
  iapply (Rows_split c (kq_sq i r.val c) (K m i c)).1
  iapply (o256_out c (kp_le i r.val c))
  rw [← hw]
  iexact Hkp

/-- The sum over the square, of the quarter the device keeps. -/
theorem sum2 {o₁ : Fin 2 → ℕ} {o₂ : Fin 4 → ℕ} (ho₁ : o₁ = ![kq i r.val c, 0]) (ho₂ : o₂ = ![i.val / 2, i.val % 2, 0, 0])
    {hin₁ : ∀ a, o₁ a + S128x2048.size a ≤ S4096x2048.size a} {hin₂ : ∀ a, o₂ a + S1x1x128x2048.size a ≤ S2x2x128x2048.size a}
    {hl₁ hl₃ : oM.view.LoadsAt (Rect.unit (s := S4096x2048) o₁ S128x2048.size hin₁).toLoadRect}
    {hl₂ : r2B.view.LoadsAt (Rect.unit (s := S2x2x128x2048) o₂ S1x1x128x2048.size hin₂).toLoadRect}
    {hx : (oM.access (Rect.unit (s := S4096x2048) o₁ S128x2048.size hin₁)).Stores Finset.univ}
    {pay : (S128x2048.Idx → Elt F .bf16) → (S1x1x128x2048.Idx → Elt F .bf16) → S128x2048.Idx → Elt F .bf16}
    (hpay : ∀ v w, pay v w = (addf (shapeCast S128x2048 v (by decide)) (shapeCast S128x2048 w (by decide)) : FVec F S128x2048 .bf16)) {Q : PUnit → sProp 𝕄} :
    (E5 m i r.val c : sProp 𝕄)
      ⊢ iprop((E6 m i r.val c -∗ Runs c (k ⟨⟩) Q)
        -∗ Runs c (.op (.load oM (Rect.unit (s := S4096x2048) o₁ S128x2048.size hin₁).toLoadRect hl₁) fun v =>
          .op (.load r2B (Rect.unit (s := S2x2x128x2048) o₂ S1x1x128x2048.size hin₂).toLoadRect hl₂) fun w =>
          .op (.load oM (Rect.unit (s := S4096x2048) o₁ S128x2048.size hin₁).toLoadRect hl₃) fun _ =>
          .op (.store oM (Rect.unit (s := S4096x2048) o₁ S128x2048.size hin₁) (pay v w) Finset.univ hx (.inl rfl)) k) Q) := by
  subst ho₂ ho₁
  have hw : pay (rows (K m i c) (kq i r.val c))
      (shapeCast S1x1x128x2048 (rows (K m i (nb2 i c)) (kq i r.val c) : S128x2048.Idx → Elt F .bf16) (by decide)) = rows (A m i c) (kq i r.val c) := by
    rw [hpay, shapeCast_self, shapeCast_shapeCast]; rfl
  unfold E5
  iintro ⟨HM, HR2, Hn, Ht, H1, H2, HK2, Hq⟩ Hk
  ihave Hq := (o128_in c (kq_le i r.val c) (K m i c)) $$ Hq
  iapply (load_rows_as c (o128_of (hin := hin₁) (hr := fun _ => rfl) rfl (kq_le i r.val c)) (X := rows (K m i c) (kq i r.val c))) $$ Hq
  iintro Hq
  iapply (load_slot_as c (show (r2B.slice (Rect.unit (s := S2x2x128x2048) ![i.val / 2, i.val % 2, 0, 0] S1x1x128x2048.size hin₂) (fun _ => rfl)).squeeze S128x2048 squeezes_S1x1x128x2048_S128x2048 = r2S i from rfl)
    (show S1x1x128x2048.ShapeCasts S128x2048 by decide) (show S128x2048.ShapeCasts S1x1x128x2048 by decide)
    (X := rows (K m i (nb2 i c)) (kq i r.val c))) $$ HR2
  iintro HR2
  iapply (load_rows_as c (o128_of (hin := hin₁) (hr := fun _ => rfl) rfl (kq_le i r.val c)) (X := rows (K m i c) (kq i r.val c))) $$ Hq
  iintro Hq
  iapply (store_rows_as c (o128_of (hin := hin₁) (hr := fun _ => rfl) rfl (kq_le i r.val c)) (X := rows (K m i c) (kq i r.val c))) $$ Hq
  iintro Hq
  iapply Hk
  unfold E6
  isplitl [HM]; · iexact HM
  isplitl [HR2]; · iapply (anyM_intro c (r2S i) _); iexact HR2
  isplitl [Hn]; · iexact Hn
  isplitl [Ht]; · iexact Ht
  isplitl [H1]; · iexact H1
  isplitl [H2]; · iexact H2
  isplitl [HK2]; · iexact HK2
  rw [← Rows_congr (G := A m i c) c (fun a b h => OO_kq m i r.val c a h b)]
  iapply (o128_out c (kq_le i r.val c))
  rw [← hw]
  iexact Hq

end Steps

end Cert.Quad

end
-- ==== Proof.State.lean ====
/-
What a device holds between two operations: its four lanes, the four slots of its argument's chunks and what it
owes; and every operation of the body as a step from one such state to the next.
-/
module

public import proofs.«01_k».proof.Proof.Lane3

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The slots of the argument -/

/-- What the other chunk of a slot needs, or has given back. -/
def other (i : Fin 4) (r : ℕ) (c : Dev nD) : sProp 𝕄 :=
  if r = 0 then iprop(xOwn m i 1 c ∗ dutyTok ER (ldCell i c) 1 false) else xOwn m i 0 c
/-- Before chunk `r` is asked for; while it comes; once it is there. -/
def idle (i : Fin 4) (r : ℕ) (c : Dev nD) : sProp 𝕄 :=
  iprop(anyM c (xinS i) ∗ xOwn m i r c ∗ dutyTok ER (ldCell i c) r false ∗ atPos ER (ldCell i c) r ∅ 0 ∗ reached ER (ldCell i c) r ∗ other m i r c)
def coming (i : Fin 4) (r : ℕ) (c : Dev nD) : sProp 𝕄 :=
  iprop(cred (tallyAt (ldCell i c) r NL) ∗ atPos ER (ldCell i c) r ∅ 0 ∗ other m i r c)
def there (i : Fin 4) (r : ℕ) (c : Dev nD) : sProp 𝕄 :=
  iprop(chunk m i r c ∗ xOwn m i r c ∗ atPos ER (ldCell i c) (r + 1) ∅ 0 ∗ reached ER (ldCell i c) (r + 1) ∗ other m i r c)

theorem there_idle (i : Fin 4) (c : Dev nD) : (there m i 0 c : sProp 𝕄) ⊢ idle m i 1 c := by
  unfold there idle chunk
  rw [show other m i 0 c = iprop(xOwn m i 1 c ∗ dutyTok ER (ldCell i c) 1 false) from rfl, show other m i 1 c = xOwn m i 0 c from rfl]
  iintro ⟨HX, H0, Ha, Hr, H1, Ht⟩
  isplitl [HX]; · iapply (anyM_intro c (xinS i) _); iexact HX
  isplitl [H1]; · iexact H1
  isplitl [Ht]; · iexact Ht
  isplitl [Ha]; · iexact Ha
  isplitl [Hr] <;> iassumption

/-- The slot of lane `i` at stage `l`: 0 idle, 1 and 3 a chunk coming, 2 and 4 the chunk there. -/
def Sl (i : Fin 4) (l : ℕ) (c : Dev nD) : sProp 𝕄 :=
  match l with
  | 0 => idle m i 0 c
  | 1 => coming m i 0 c
  | 2 => there m i 0 c
  | 3 => coming m i 1 c
  | _ => there m i 1 c

theorem Sl_start (i : Fin 4) (r : Fin 2) (c : Dev nD) : (Sl m i (2 * r.val) c : sProp 𝕄) ⊢ idle m i r.val c := by
  fin_cases r
  · exact BI.Entails.refl _
  · exact there_idle m i c
theorem Sl_coming (i : Fin 4) (r : Fin 2) (c : Dev nD) : (Sl m i (2 * r.val + 1) c : sProp 𝕄) = coming m i r.val c := by
  fin_cases r <;> rfl
theorem Sl_there (i : Fin 4) (r : Fin 2) (c : Dev nD) : (Sl m i (2 * r.val + 2) c : sProp 𝕄) = there m i r.val c := by
  fin_cases r <;> rfl

/-! ## The lanes -/

/-- A lane at progress `e`. -/
def Ex (i : Fin 4) (e : ℕ) (c : Dev nD) : sProp 𝕄 :=
  match e % 10 with
  | 0 => E0 m i (e / 10) c
  | 1 => E1 m i (e / 10) c
  | 2 => E2 m i (e / 10) c
  | 3 => E3 m i (e / 10) c
  | 4 => E4 m i (e / 10) c
  | 5 => E5 m i (e / 10) c
  | 6 => E6 m i (e / 10) c
  | 7 => E7 m i (e / 10) c
  | 8 => E8 m i (e / 10) c
  | _ => E9 m i (e / 10) c

theorem Ex_at (i : Fin 4) (r : Fin 2) (k : ℕ) (hk : k ≤ 10) (c : Dev nD) :
    (Ex m i (10 * r.val + k) c : sProp 𝕄) = match k with
      | 0 => E0 m i r.val c
      | 1 => E1 m i r.val c
      | 2 => E2 m i r.val c
      | 3 => E3 m i r.val c
      | 4 => E4 m i r.val c
      | 5 => E5 m i r.val c
      | 6 => E6 m i r.val c
      | 7 => E7 m i r.val c
      | 8 => E8 m i r.val c
      | 9 => E9 m i r.val c
      | _ => E0 m i (r.val + 1) c := by
  interval_cases k <;> fin_cases r <;> rfl

/-! ## The device -/

section Dev
variable (N : Dev nD × Fin 37 → ℕ) (c : Dev nD)

/-- The device with its lanes at progress `e` and its slots at stage `l`. -/
def St (e l : Fin 4 → ℕ) : sProp 𝕄 :=
  iprop(recs m N ∗ Owes c e ∗ (bigSep Finset.univ fun i => Ex m i (e i) c) ∗ (bigSep Finset.univ fun i => Sl m i (l i) c))

theorem swap_one {P P' : Fin 4 → sProp 𝕄} (i : Fin 4) (h : ∀ j, j ≠ i → P' j = P j) :
    (bigSep Finset.univ P : sProp 𝕄) ⊢ iprop(P i ∗ (P' i -∗ bigSep Finset.univ P')) := by
  have h₁ : (bigSep Finset.univ P : sProp 𝕄) = iprop(P i ∗ bigSep (Finset.univ.erase i) P) := bigSep_erase (Finset.mem_univ i)
  have h₂ : (bigSep Finset.univ P' : sProp 𝕄) = iprop(P' i ∗ bigSep (Finset.univ.erase i) P) := by
    rw [bigSep_erase (Finset.mem_univ i), bigSep_congr (fun j hj => h j (Finset.ne_of_mem_erase hj))]; rfl
  rw [h₁, h₂]
  iintro ⟨H, HR⟩
  isplitl [H]; · iexact H
  iintro H
  isplitl [H] <;> iassumption

theorem take_one (e e' l l' : Fin 4 → ℕ) (i : Fin 4) (he : ∀ j, j ≠ i → e' j = e j) (hl : ∀ j, j ≠ i → l' j = l j) :
    (St m N c e l : sProp 𝕄) ⊢ iprop(recs m N ∗ Owes c e ∗ Ex m i (e i) c ∗ Sl m i (l i) c
      ∗ ((Owes c e' ∗ Ex m i (e' i) c ∗ Sl m i (l' i) c) -∗ St m N c e' l')) := by
  unfold St
  iintro ⟨#HR, HO, HE, HL⟩
  ihave HE' := (swap_one (P := fun i => Ex m i (e i) c) (P' := fun i => Ex m i (e' i) c) i (fun j hj => by rw [he j hj])) $$ HE
  icases HE' with ⟨HE, HE'⟩
  ihave HL' := (swap_one (P := fun i => Sl m i (l i) c) (P' := fun i => Sl m i (l' i) c) i (fun j hj => by rw [hl j hj])) $$ HL
  icases HL' with ⟨HL, HL'⟩
  isplitr; · iexact HR
  isplitl [HO]; · iexact HO
  isplitl [HE]; · iexact HE
  isplitl [HL]; · iexact HL
  iintro ⟨HO, HE, HL⟩
  isplitr; · iexact HR
  isplitl [HO]; · iexact HO
  isplitl [HE' HE]; · iapply HE' $$ HE
  iapply HL' $$ HL

/-- What is owed does not change with the progress a sum or a wait makes. -/
theorem Owes_same {e e' : Fin 4 → ℕ} (h : ∀ p, Iff (pending e p) (pending e' p)) : (Owes c e : sProp 𝕄) = Owes c e' := by
  unfold Owes; rw [Ow_same c h]

variable (i : Fin 4) (r : Fin 2) {e l : Fin 4 → ℕ} (e' l' : Fin 4 → ℕ)
  {k : PUnit → Prog (TpuEff nD τ sig (Elt F) Λ₀ Proc.tc) PUnit}

/-- A chunk is asked for. -/
theorem st_copy {Q : PUnit → sProp 𝕄} (h : St m N c e l' ⊢ Runs c (k ⟨⟩) Q)
    (hl : l i = 2 * r.val) (hl' : l' i = 2 * r.val + 1) (hne : ∀ j, j ≠ i → l' j = l j)
    {q : DmaSem sig} (hq : q = ldSem i)
    {src : Memref sig .tc .hbm S512x2048 .f32} {dst : Memref sig .tc .vmem S512x2048 .f32}
    (hsrc' : src = x512 (bs i r.val) (bs_le i r.val)) (hdst' : dst = xinS i)
    {hsrc : src.view.WordExact} {hdst : dst.view.WordExact}
    {hsem : DmaTarget.Typed (nD := nD) (τ := τ) (p := Proc.tc) .hbm (.dma q) (.here dst)} :
    (St m N c e l : sProp 𝕄) ⊢ Runs c (.op (.enqueueDma src (.here dst) (.dma q) hsrc hdst hsem) k) Q := by
  refine (take_one m N c e e l l' i (fun _ _ => rfl) hne).trans ?_
  rw [hl, hl', Sl_coming]
  iintro ⟨#HR, HO, HE, HL, HK⟩
  ihave HL := (Sl_start m i r c) $$ HL
  unfold idle xOwn
  icases HL with ⟨HX, Hx, Ht, Ha, #Hr, Hot⟩
  iapply (copy_in m N c i r hq hsrc' hdst' (by rw [hdst']; rfl) (Y := xrows m c (bs i r.val)) (by unfold ldPay xOwn; exact BI.Entails.refl _)) $$ [HX Hx Ht]
  · isplitr; · iexact HR
    isplitl [Hx]; · iexact Hx
    isplitl [HX]; · iexact HX
    isplitl [Ht]; · iexact Ht
    iexact Hr
  iintro Hc
  iapply h
  iapply HK
  isplitl [HO]; · iexact HO
  isplitl [HE]; · iexact HE
  unfold coming
  isplitl [Hc]; · iexact Hc
  isplitl [Ha] <;> iassumption

/-- A chunk is waited for. -/
theorem st_arrive {Q : PUnit → sProp 𝕄} (h : St m N c e l' ⊢ Runs c (k ⟨⟩) Q)
    (hl : l i = 2 * r.val + 1) (hl' : l' i = 2 * r.val + 2) (hne : ∀ j, j ≠ i → l' j = l j)
    {q : DmaSem sig} (hq : q = ldSem i)
    {sp₁ sp₂ : Space} {s₁ s₂ : Shape} {t₁ t₂ : EltTy} {M₁ : Memref sig .tc sp₁ s₁ t₁} {M₂ : Memref sig .tc sp₂ s₂ t₂}
    (hn : M₂.view.dmaCredit = NL) {h₁ : M₁.view.WordExact} {h₂ : M₂.view.WordExact} :
    (St m N c e l : sProp 𝕄) ⊢ Runs c (.op (.waitDma2 q M₁ M₂ h₁ h₂) k) Q := by
  refine (take_one m N c e e l l' i (fun _ _ => rfl) hne).trans ?_
  rw [hl, hl', Sl_coming, Sl_there]
  unfold coming
  iintro ⟨#HR, HO, HE, ⟨Hc, Ha, Hot⟩, HK⟩
  iapply (wait_cell m N c (ldSem_ne i) r.isLt (expect_ld m c i r.val r.isLt) (rest_ld m c i r.val r.isLt) e
    (fun p _ => by rw [role_ld]; exact Nat.succ_pos _) hq hn) $$ [HO Hc Ha]
  · isplitr; · iexact HR
    isplitl [HO]; · iexact HO
    isplitl [Hc] <;> iassumption
  iintro ⟨HO, HP, Ha, Hr⟩
  iapply h
  iapply HK
  isplitl [HO]; · iexact HO
  isplitl [HE]; · iexact HE
  unfold there ldPay chunk
  icases HP with ⟨HX, Hx⟩
  isplitl [HX]; · iexact HX
  isplitl [Hx]; · iexact Hx
  isplitl [Ha]; · iexact Ha
  isplitl [Hr] <;> iassumption

/-- Both waits of a step. -/
theorem st_wait (s : Fin 4) {Q : PUnit → sProp 𝕄} (h : St m N c e' l ⊢ Runs c (k ⟨⟩) Q)
    (he : e i = 10 * r.val + Cert.Quad.sp s + 1) (he' : e' i = 10 * r.val + Cert.Quad.sp s + 2) (hne : ∀ j, j ≠ i → e' j = e j)
    (hlev : ∀ p : Fin 4 × Fin 4 × Fin 2, pending e p → lvOf r.val (.sd i s) < 4 * (p.1.val / 2 + 2 * p.2.2.val) + p.2.1.val + 2
      ∧ lvOf r.val (.rv i s) < 4 * (p.1.val / 2 + 2 * p.2.2.val) + p.2.1.val + 2)
    (hsame : ∀ p, Iff (pending e p) (pending e' p))
    {q₁ q₂ : DmaSem sig} (hq₁ : q₁ = sdSem i s) (hq₂ : q₂ = rvSem i s)
    {sp₁ sp₂ sp₃ sp₄ : Space} {s₁ s₂ s₃ s₄ : Shape} {t₁ t₂ t₃ t₄ : EltTy}
    {M₁ : Memref sig .tc sp₁ s₁ t₁} {M₂ : Memref sig .tc sp₂ s₂ t₂} {M₃ : Memref sig .tc sp₃ s₃ t₃} {M₄ : Memref sig .tc sp₄ s₄ t₄}
    (hn₂ : M₂.view.dmaCredit = NS s) (hn₄ : M₄.view.dmaCredit = NS s)
    {h₁ : M₁.view.WordExact} {h₂ : M₂.view.WordExact} {h₃ : M₃.view.WordExact} {h₄ : M₄.view.WordExact} :
    (St m N c e l : sProp 𝕄) ⊢ Runs c (.op (.waitDma2 q₁ M₁ M₂ h₁ h₂) fun _ => .op (.waitDma2 q₂ M₃ M₄ h₃ h₄) k) Q := by
  have hb : (Ex m i (e i) c : sProp 𝕄) = bef m i s r.val c := by
    rw [he, Nat.add_assoc]
    fin_cases s <;> exact Ex_at m i r _ (by decide) c
  have ha : (Ex m i (e' i) c : sProp 𝕄) = aft m i s r.val c := by
    rw [he', Nat.add_assoc]
    fin_cases s <;> exact Ex_at m i r _ (by decide) c
  refine (take_one m N c e e' l l i hne (fun _ _ => rfl)).trans ?_
  rw [hb, ha, ← Owes_same c hsame]
  iintro ⟨#HR, HO, HE, HL, HK⟩
  ihave HB := (bef_split m c i s r) $$ HE
  icases HB with ⟨⟨Hf, Hp⟩, HA⟩
  iapply (wait_step m N c i s r e hlev hq₁ hq₂ hn₂ hn₄) $$ [HO Hf Hp]
  · isplitr; · iexact HR
    isplitl [HO]; · iexact HO
    isplitl [Hf] <;> iassumption
  iintro ⟨HO, HP⟩
  iapply h
  iapply HK
  isplitl [HO]; · iexact HO
  isplitl [HA HP]; · iapply HA $$ HP
  iexact HL

section Step
variable {n : Dev nD} {q₁ q₂ : DmaSem sig}

/-- Step 0. -/
theorem st_send0 {Q : PUnit → sProp 𝕄} (h : St m N c e' l ⊢ Runs c (k ⟨⟩) Q)
    (hl : l i = 2 * r.val + 2)
    (he : e i = 10 * r.val + 0) (he' : e' i = 10 * r.val + 0 + 1) (hne : ∀ j, j ≠ i → e' j = e j)
    (hn : n = nb1 i c) (hq₁ : q₁ = sdSem i 0) (hq₂ : q₂ = rvSem i 0)
    {src : Memref sig .tc .vmem S256x2048 .bf16} {dst : Memref sig .tc .vmem S256x2048 .bf16}
    (hsrc' : src = stgS i) (hdst' : dst = r1S i)
    {o₁ o₂ : Fin 4 → ℕ} (ho₁ : o₁ = ![i.val / 2, i.val % 2, 256 * (1 - a1 i c), 0]) (ho₂ : o₂ = ![i.val / 2, i.val % 2, 0, 0])
    {hin₁ : ∀ a, o₁ a + S1x1x256x2048.size a ≤ S2x2x512x2048.size a} {hin₂ : ∀ a, o₂ a + S1x1x256x2048.size a ≤ S2x2x256x2048.size a}
    {hl₁ : xinB.view.LoadsAt (Rect.unit (s := S2x2x512x2048) o₁ S1x1x256x2048.size hin₁).toLoadRect}
    {hl₂ : stgB.view.LoadsAt (Rect.unit (s := S2x2x256x2048) o₂ S1x1x256x2048.size hin₂).toLoadRect}
    {hx : (stgB.access (Rect.unit (s := S2x2x256x2048) o₂ S1x1x256x2048.size hin₂)).Stores Finset.univ}
    {pay : (S1x1x256x2048.Idx → Elt F .f32) → S1x1x256x2048.Idx → Elt F .bf16}
    (hpay : ∀ v, pay v = shapeCast S1x1x256x2048 (truncf .bf16 (shapeCast S256x2048 v (by decide)) bitsLt_bf16_f32 : FVec F S256x2048 .bf16) (by decide))
    {hsc : (dst : Memref sig (Dev.tc n : Thread nD τ).2.kind .vmem S256x2048 .bf16).view.ref.isScScratch = false}
    {hsrc : src.view.WordExact} {hdst : dst.view.WordExact}
    {hsem : DmaTarget.Typed .vmem (.dma q₂) (.remote (Dev.tc n : Thread nD τ) dst (.dma q₁) hsc)} :
    (St m N c e l : sProp 𝕄) ⊢ Runs c (.op (.load xinB (Rect.unit (s := S2x2x512x2048) o₁ S1x1x256x2048.size hin₁).toLoadRect hl₁) fun v =>
          .op (.load stgB (Rect.unit (s := S2x2x256x2048) o₂ S1x1x256x2048.size hin₂).toLoadRect hl₂) fun _ =>
          .op (.store stgB (Rect.unit (s := S2x2x256x2048) o₂ S1x1x256x2048.size hin₂) (pay v) Finset.univ hx (.inl rfl)) fun _ =>
          .op (.enqueueDma src (.remote (Dev.tc n : Thread nD τ) dst (.dma q₁) hsc) (.dma q₂) hsrc hdst hsem) k) Q := by
  have hb : (Ex m i (e i) c : sProp 𝕄) = E0 m i r.val c := by rw [he]; exact Ex_at m i r 0 (by decide) c
  have ha : (Ex m i (e' i) c : sProp 𝕄) = E1 m i r.val c := by rw [he', Nat.add_assoc]; exact Ex_at m i r 1 (by decide) c
  refine (take_one m N c e e' l l i hne (fun _ _ => rfl)).trans ?_
  rw [hb, ha, hl, Sl_there]
  unfold there
  iintro ⟨#HR, HO, HE, ⟨HX, HL⟩, HK⟩
  iapply (send0 m N c i r hn hq₁ hq₂ hsrc' hdst' he he' hne ho₁ ho₂ hpay) $$ [HO HE HX]
  · isplitr; · iexact HR
    isplitl [HO]; · iexact HO
    isplitl [HX] <;> iassumption
  iintro ⟨HO, HX, HE⟩
  iapply h
  iapply HK
  isplitl [HO]; · iexact HO
  isplitl [HE]; · iexact HE
  isplitl [HX] <;> iassumption

/-- The first sum. -/
theorem st_sum1 {Q : PUnit → sProp 𝕄} (h : St m N c e' l ⊢ Runs c (k ⟨⟩) Q)
    (hl : l i = 2 * r.val + 2)
    (he : e i = 10 * r.val + 2) (he' : e' i = 10 * r.val + 3) (hne : ∀ j, j ≠ i → e' j = e j)
    (hsame : ∀ p, Iff (pending e p) (pending e' p))
    {o₁ o₂ : Fin 4 → ℕ} {o₃ : Fin 2 → ℕ} (ho₁ : o₁ = ![i.val / 2, i.val % 2, 256 * a1 i c, 0]) (ho₂ : o₂ = ![i.val / 2, i.val % 2, 0, 0])
    (ho₃ : o₃ = ![kp i r.val c, 0])
    {hin₁ : ∀ a, o₁ a + S1x1x256x2048.size a ≤ S2x2x512x2048.size a} {hin₂ : ∀ a, o₂ a + S1x1x256x2048.size a ≤ S2x2x256x2048.size a}
    {hin₃ : ∀ a, o₃ a + S256x2048.size a ≤ S4096x2048.size a}
    {hl₁ : xinB.view.LoadsAt (Rect.unit (s := S2x2x512x2048) o₁ S1x1x256x2048.size hin₁).toLoadRect}
    {hl₂ : r1B.view.LoadsAt (Rect.unit (s := S2x2x256x2048) o₂ S1x1x256x2048.size hin₂).toLoadRect}
    {hl₃ : oM.view.LoadsAt (Rect.unit (s := S4096x2048) o₃ S256x2048.size hin₃).toLoadRect}
    {hx : (oM.access (Rect.unit (s := S4096x2048) o₃ S256x2048.size hin₃)).Stores Finset.univ}
    {pay : (S1x1x256x2048.Idx → Elt F .f32) → (S1x1x256x2048.Idx → Elt F .bf16) → S256x2048.Idx → Elt F .bf16}
    (hpay : ∀ v w, pay v w = (addf (truncf .bf16 (shapeCast S256x2048 v (by decide)) bitsLt_bf16_f32 : FVec F S256x2048 .bf16)
      (shapeCast S256x2048 w (by decide)) : FVec F S256x2048 .bf16)) :
    (St m N c e l : sProp 𝕄) ⊢ Runs c (.op (.load xinB (Rect.unit (s := S2x2x512x2048) o₁ S1x1x256x2048.size hin₁).toLoadRect hl₁) fun v =>
          .op (.load r1B (Rect.unit (s := S2x2x256x2048) o₂ S1x1x256x2048.size hin₂).toLoadRect hl₂) fun w =>
          .op (.load oM (Rect.unit (s := S4096x2048) o₃ S256x2048.size hin₃).toLoadRect hl₃) fun _ =>
          .op (.store oM (Rect.unit (s := S4096x2048) o₃ S256x2048.size hin₃) (pay v w) Finset.univ hx (.inl rfl)) k) Q := by
  have hb : (Ex m i (e i) c : sProp 𝕄) = E2 m i r.val c := by rw [he]; exact Ex_at m i r 2 (by decide) c
  have ha : (Ex m i (e' i) c : sProp 𝕄) = E3 m i r.val c := by rw [he']; exact Ex_at m i r 3 (by decide) c
  refine (take_one m N c e e' l l i hne (fun _ _ => rfl)).trans ?_
  rw [hb, ha, hl, Sl_there, ← Owes_same c hsame]
  unfold there
  iintro ⟨#HR, HO, HE, ⟨HX, HL⟩, HK⟩
  iapply (sum1 m c i r ho₁ ho₂ ho₃ hpay) $$ [HE HX]
  · isplitl [HX] <;> iassumption
  iintro ⟨HX, HE⟩
  iapply h
  iapply HK
  isplitl [HO]; · iexact HO
  isplitl [HE]; · iexact HE
  isplitl [HX] <;> iassumption

/-- The second sum. -/
theorem st_sum2 {Q : PUnit → sProp 𝕄} (h : St m N c e' l ⊢ Runs c (k ⟨⟩) Q)
    (he : e i = 10 * r.val + 5) (he' : e' i = 10 * r.val + 6) (hne : ∀ j, j ≠ i → e' j = e j)
    (hsame : ∀ p, Iff (pending e p) (pending e' p))
    {o₁ : Fin 2 → ℕ} {o₂ : Fin 4 → ℕ} (ho₁ : o₁ = ![kq i r.val c, 0]) (ho₂ : o₂ = ![i.val / 2, i.val % 2, 0, 0])
    {hin₁ : ∀ a, o₁ a + S128x2048.size a ≤ S4096x2048.size a} {hin₂ : ∀ a, o₂ a + S1x1x128x2048.size a ≤ S2x2x128x2048.size a}
    {hl₁ hl₃ : oM.view.LoadsAt (Rect.unit (s := S4096x2048) o₁ S128x2048.size hin₁).toLoadRect}
    {hl₂ : r2B.view.LoadsAt (Rect.unit (s := S2x2x128x2048) o₂ S1x1x128x2048.size hin₂).toLoadRect}
    {hx : (oM.access (Rect.unit (s := S4096x2048) o₁ S128x2048.size hin₁)).Stores Finset.univ}
    {pay : (S128x2048.Idx → Elt F .bf16) → (S1x1x128x2048.Idx → Elt F .bf16) → S128x2048.Idx → Elt F .bf16}
    (hpay : ∀ v w, pay v w = (addf (shapeCast S128x2048 v (by decide)) (shapeCast S128x2048 w (by decide)) : FVec F S128x2048 .bf16)) :
    (St m N c e l : sProp 𝕄) ⊢ Runs c (.op (.load oM (Rect.unit (s := S4096x2048) o₁ S128x2048.size hin₁).toLoadRect hl₁) fun v =>
          .op (.load r2B (Rect.unit (s := S2x2x128x2048) o₂ S1x1x128x2048.size hin₂).toLoadRect hl₂) fun w =>
          .op (.load oM (Rect.unit (s := S4096x2048) o₁ S128x2048.size hin₁).toLoadRect hl₃) fun _ =>
          .op (.store oM (Rect.unit (s := S4096x2048) o₁ S128x2048.size hin₁) (pay v w) Finset.univ hx (.inl rfl)) k) Q := by
  have hb : (Ex m i (e i) c : sProp 𝕄) = E5 m i r.val c := by rw [he]; exact Ex_at m i r 5 (by decide) c
  have ha : (Ex m i (e' i) c : sProp 𝕄) = E6 m i r.val c := by rw [he']; exact Ex_at m i r 6 (by decide) c
  refine (take_one m N c e e' l l i hne (fun _ _ => rfl)).trans ?_
  rw [hb, ha, ← Owes_same c hsame]
  iintro ⟨#HR, HO, HE, HL, HK⟩
  iapply (sum2 m c i r ho₁ ho₂ hpay) $$ HE
  iintro HE
  iapply h
  iapply HK
  isplitl [HO]; · iexact HO
  isplitl [HE] <;> iassumption

/-- Steps 1, 2 and 3. -/
theorem st_send1 {Q : PUnit → sProp 𝕄} (h : St m N c e' l ⊢ Runs c (k ⟨⟩) Q)
    (he : e i = 10 * r.val + 3) (he' : e' i = 10 * r.val + 3 + 1) (hne : ∀ j, j ≠ i → e' j = e j)
    (hn : n = nb2 i c) (hq₁ : q₁ = sdSem i 1) (hq₂ : q₂ = rvSem i 1)
    {src : Memref sig .tc .vmem S128x2048 .bf16} {dst : Memref sig .tc .vmem S128x2048 .bf16}
    (hsrc' : src = o128 (sq i r.val c) (sq_le i r.val c)) (hdst' : dst = r2S i)
    {hsc : (dst : Memref sig (Dev.tc n : Thread nD τ).2.kind .vmem S128x2048 .bf16).view.ref.isScScratch = false}
    {hsrc : src.view.WordExact} {hdst : dst.view.WordExact}
    {hsem : DmaTarget.Typed .vmem (.dma q₂) (.remote (Dev.tc n : Thread nD τ) dst (.dma q₁) hsc)} :
    (St m N c e l : sProp 𝕄) ⊢ Runs c (.op (.enqueueDma src (.remote (Dev.tc n : Thread nD τ) dst (.dma q₁) hsc) (.dma q₂) hsrc hdst hsem) k) Q := by
  have hb : (Ex m i (e i) c : sProp 𝕄) = E3 m i r.val c := by rw [he]; exact Ex_at m i r 3 (by decide) c
  have ha : (Ex m i (e' i) c : sProp 𝕄) = E4 m i r.val c := by rw [he', Nat.add_assoc]; exact Ex_at m i r 4 (by decide) c
  refine (take_one m N c e e' l l i hne (fun _ _ => rfl)).trans ?_
  rw [hb, ha]
  iintro ⟨#HR, HO, HE, HL, HK⟩
  iapply (send1 m N c i r hn hq₁ hq₂ hsrc' hdst' he he' hne) $$ [HO HE]
  · isplitr; · iexact HR
    isplitl [HO] <;> iassumption
  iintro ⟨HO, HE⟩
  iapply h
  iapply HK
  isplitl [HO]; · iexact HO
  isplitl [HE] <;> iassumption

theorem st_send2 {Q : PUnit → sProp 𝕄} (h : St m N c e' l ⊢ Runs c (k ⟨⟩) Q)
    (he : e i = 10 * r.val + 6) (he' : e' i = 10 * r.val + 6 + 1) (hne : ∀ j, j ≠ i → e' j = e j)
    (hn : n = nb2 i c) (hq₁ : q₁ = sdSem i 2) (hq₂ : q₂ = rvSem i 2)
    {src : Memref sig .tc .vmem S128x2048 .bf16} {dst : Memref sig .tc .vmem S128x2048 .bf16}
    (hsrc' : src = o128 (kq i r.val c) (kq_le i r.val c)) (hdst' : dst = o128 (kq i r.val c) (kq_le i r.val c))
    {hsc : (dst : Memref sig (Dev.tc n : Thread nD τ).2.kind .vmem S128x2048 .bf16).view.ref.isScScratch = false}
    {hsrc : src.view.WordExact} {hdst : dst.view.WordExact}
    {hsem : DmaTarget.Typed .vmem (.dma q₂) (.remote (Dev.tc n : Thread nD τ) dst (.dma q₁) hsc)} :
    (St m N c e l : sProp 𝕄) ⊢ Runs c (.op (.enqueueDma src (.remote (Dev.tc n : Thread nD τ) dst (.dma q₁) hsc) (.dma q₂) hsrc hdst hsem) k) Q := by
  have hb : (Ex m i (e i) c : sProp 𝕄) = E6 m i r.val c := by rw [he]; exact Ex_at m i r 6 (by decide) c
  have ha : (Ex m i (e' i) c : sProp 𝕄) = E7 m i r.val c := by rw [he', Nat.add_assoc]; exact Ex_at m i r 7 (by decide) c
  refine (take_one m N c e e' l l i hne (fun _ _ => rfl)).trans ?_
  rw [hb, ha]
  iintro ⟨#HR, HO, HE, HL, HK⟩
  iapply (send2 m N c i r hn hq₁ hq₂ hsrc' hdst' he he' hne) $$ [HO HE]
  · isplitr; · iexact HR
    isplitl [HO] <;> iassumption
  iintro ⟨HO, HE⟩
  iapply h
  iapply HK
  isplitl [HO]; · iexact HO
  isplitl [HE] <;> iassumption

theorem st_send3 {Q : PUnit → sProp 𝕄} (h : St m N c e' l ⊢ Runs c (k ⟨⟩) Q)
    (he : e i = 10 * r.val + 8) (he' : e' i = 10 * r.val + 8 + 1) (hne : ∀ j, j ≠ i → e' j = e j)
    (hn : n = nb1 i c) (hq₁ : q₁ = sdSem i 3) (hq₂ : q₂ = rvSem i 3)
    {src : Memref sig .tc .vmem S256x2048 .bf16} {dst : Memref sig .tc .vmem S256x2048 .bf16}
    (hsrc' : src = o256 (kp i r.val c) (kp_le i r.val c)) (hdst' : dst = o256 (kp i r.val c) (kp_le i r.val c))
    {hsc : (dst : Memref sig (Dev.tc n : Thread nD τ).2.kind .vmem S256x2048 .bf16).view.ref.isScScratch = false}
    {hsrc : src.view.WordExact} {hdst : dst.view.WordExact}
    {hsem : DmaTarget.Typed .vmem (.dma q₂) (.remote (Dev.tc n : Thread nD τ) dst (.dma q₁) hsc)} :
    (St m N c e l : sProp 𝕄) ⊢ Runs c (.op (.enqueueDma src (.remote (Dev.tc n : Thread nD τ) dst (.dma q₁) hsc) (.dma q₂) hsrc hdst hsem) k) Q := by
  have hb : (Ex m i (e i) c : sProp 𝕄) = E8 m i r.val c := by rw [he]; exact Ex_at m i r 8 (by decide) c
  have ha : (Ex m i (e' i) c : sProp 𝕄) = E9 m i r.val c := by rw [he', Nat.add_assoc]; exact Ex_at m i r 9 (by decide) c
  refine (take_one m N c e e' l l i hne (fun _ _ => rfl)).trans ?_
  rw [hb, ha]
  iintro ⟨#HR, HO, HE, HL, HK⟩
  iapply (send3 m N c i r hn hq₁ hq₂ hsrc' hdst' he he' hne) $$ [HO HE]
  · isplitr; · iexact HR
    isplitl [HO] <;> iassumption
  iintro ⟨HO, HE⟩
  iapply h
  iapply HK
  isplitl [HO]; · iexact HO
  isplitl [HE] <;> iassumption

end Step

end Dev

end Cert.Quad

end
-- ==== Proof.Body1.lean ====
/-
The body, stretch by stretch: from the first loads to the second sum of the first pair.
-/
module

public import proofs.«01_k».proof.Proof.State

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (N : Dev nD × Fin 37 → ℕ) (c : Dev nD)

theorem to_xn {n : Dev nD} (h : n.val = ((c.val % 2) + 2) - 2 * (c.val / 2)) : n = xn c := by
  apply Fin.ext; rw [h]; clear h; revert c; decide
theorem to_yn {n : Dev nD} (h : n.val = (2 * (c.val / 2) + 1) - (c.val % 2)) : n = yn c := by
  apply Fin.ext; rw [h]; clear h; revert c; decide

variable (hA : xA.IsWhole) (hO : oM.IsWhole) (hX : xinB.IsWhole) (hS : stgB.IsWhole) (h1 : r1B.IsWhole) (h2 : r2B.IsWhole)
  (v2 v5 v6 v7 w1 w2 w3 w4 : BitVec 32)

/-- The rest of the first loads; every lane's first half goes out. -/
theorem seg_start {Q : PUnit → sProp 𝕄} {k : (Σ' (_ : BitVec 32) (_ : BitVec 32) (_ : BitVec 32), BitVec 32) → Prog (TpuEff nD τ sig (Elt F) Λ₀ Proc.tc) PUnit}
    (h : ∀ v, St m N c ![1, 1, 1, 1] ![2, 2, 2, 2] ⊢ Runs c (k v) Q) :
    (St m N c ![0, 0, 0, 0] ![1, 0, 0, 0] : sProp 𝕄) ⊢ Runs c (
      k0_part2 xA hA oM hO xinB hX stgB hS r1B h1 r2B h2 cc0_scratch4 cc0_scratch5 cc0_scratch6 v2 >>= fun w =>
      k0_part3 xA hA oM hO xinB hX stgB hS r1B h1 r2B h2 cc0_scratch4 cc0_scratch5 cc0_scratch6 c v5 v6 w >>= fun _ =>
      k0_part4 xA hA oM hO xinB hX stgB hS r1B h1 r2B h2 cc0_scratch4 cc0_scratch5 cc0_scratch6 c v2 v7 >>= fun x =>
      k0_part5 xA hA oM hO xinB hX stgB hS r1B h1 r2B h2 cc0_scratch4 cc0_scratch5 cc0_scratch6 c v5 v6 x >>= fun _ =>
      k0_part6 xA hA oM hO xinB hX stgB hS r1B h1 r2B h2 cc0_scratch4 cc0_scratch5 cc0_scratch6 c v2 v5 v7 >>= k) Q := by
  simp only [k0_part2_eq_skeleton, k0_part3_eq_skeleton, k0_part4_eq_skeleton, k0_part5_eq_skeleton, k0_part6_eq_skeleton]
  unfold k0_part2_skel k0_part3_skel k0_part4_skel k0_part5_skel k0_part6_skel
  simp only [Prog.lift, Prog.bind_op, Prog.bind_ret, Prog.pure_eq_ret]
  refine st_copy m N c 1 0 ![1, 1, 0, 0] ?_ (by rfl) (by rfl) (by decide) (by rfl) (by rfl) (by rfl)
  refine st_copy m N c 2 0 ![1, 1, 1, 0] ?_ (by rfl) (by rfl) (by decide) (by rfl) (by rfl) (by rfl)
  refine st_copy m N c 3 0 ![1, 1, 1, 1] ?_ (by rfl) (by rfl) (by decide) (by rfl) (by rfl) (by rfl)
  refine st_arrive m N c 0 0 ![2, 1, 1, 1] ?_ (by rfl) (by rfl) (by decide) (by rfl) (by rfl)
  refine st_arrive m N c 1 0 ![2, 2, 1, 1] ?_ (by rfl) (by rfl) (by decide) (by rfl) (by rfl)
  refine st_send0 m N c 0 0 ![1, 0, 0, 0] ?_ (by rfl) (by rfl) (by rfl) (by decide) (by exact to_xn c (k0_dev3_eq c)) (by rfl) (by rfl) (by rfl) (by rfl)
    (by clear h; revert c; decide) (by rfl) (fun _ => rfl)
  refine st_send0 m N c 1 0 ![1, 1, 0, 0] ?_ (by rfl) (by rfl) (by rfl) (by decide) (by exact to_yn c (k0_dev4_eq c)) (by rfl) (by rfl) (by rfl) (by rfl)
    (by clear h; revert c; decide) (by rfl) (fun _ => rfl)
  refine st_arrive m N c 2 0 ![2, 2, 2, 1] ?_ (by rfl) (by rfl) (by decide) (by rfl) (by rfl)
  refine st_arrive m N c 3 0 ![2, 2, 2, 2] ?_ (by rfl) (by rfl) (by decide) (by rfl) (by rfl)
  refine st_send0 m N c 2 0 ![1, 1, 1, 0] ?_ (by rfl) (by rfl) (by rfl) (by decide) (by exact to_xn c (k0_dev5_eq c)) (by rfl) (by rfl) (by rfl) (by rfl)
    (by clear h; revert c; decide) (by rfl) (fun _ => rfl)
  exact st_send0 m N c 3 0 ![1, 1, 1, 1] (h _) (by rfl) (by rfl) (by rfl) (by decide) (by exact to_yn c (k0_dev6_eq c)) (by rfl) (by rfl) (by rfl) (by rfl)
    (by clear h; revert c; decide) (by rfl) (fun _ => rfl)

/-- First pair, round 0: what step 0 sent is waited for and summed. -/
theorem seg_a1 {Q : PUnit → sProp 𝕄} {k : PUnit → Prog (TpuEff nD τ sig (Elt F) Λ₀ Proc.tc) PUnit}
    (h : St m N c ![3, 3, 1, 1] ![2, 2, 2, 2] ⊢ Runs c (k ⟨⟩) Q) :
    (St m N c ![1, 1, 1, 1] ![2, 2, 2, 2] : sProp 𝕄) ⊢ Runs c (
      k0_part7 xA hA oM hO xinB hX stgB hS r1B h1 r2B h2 cc0_scratch4 cc0_scratch5 cc0_scratch6 v2 v5 v6 v7 >>= fun _ =>
      k0_part8 xA hA oM hO xinB hX stgB hS r1B h1 r2B h2 cc0_scratch4 cc0_scratch5 cc0_scratch6 c v2 v5 w1 w2 >>= k) Q := by
  simp only [k0_part7_eq_skeleton, k0_part8_eq_skeleton]
  unfold k0_part7_skel k0_part8_skel
  simp only [Prog.lift, Prog.bind_op, Prog.bind_ret, Prog.pure_eq_ret]
  refine st_wait m N c 0 0 ![2, 1, 1, 1] 0 ?_ (by rfl) (by rfl) (by decide) (by decide) (by decide) (by rfl) (by rfl) (by rfl) (by rfl)
  refine st_wait m N c 1 0 ![2, 2, 1, 1] 0 ?_ (by rfl) (by rfl) (by decide) (by decide) (by decide) (by rfl) (by rfl) (by rfl) (by rfl)
  refine st_sum1 m N c 0 0 ![3, 2, 1, 1] ?_ (by rfl) (by rfl) (by rfl) (by decide) (by decide)
    (by clear h; revert c; decide) (by rfl) (by clear h; revert c; decide) (fun _ _ => rfl)
  exact st_sum1 m N c 1 0 ![3, 3, 1, 1] h (by rfl) (by rfl) (by rfl) (by decide) (by decide)
    (by clear h; revert c; decide) (by rfl) (by clear h; revert c; decide) (fun _ _ => rfl)

/-- First pair, round 0: the second loads are asked for; step 1 goes and comes; the second sum; step 2 of lane 0 goes. -/
theorem seg_a2 {Q : PUnit → sProp 𝕄} {k : (Σ' (_ : BitVec 32), BitVec 32) → Prog (TpuEff nD τ sig (Elt F) Λ₀ Proc.tc) PUnit}
    (h : ∀ v, St m N c ![7, 6, 1, 1] ![3, 3, 2, 2] ⊢ Runs c (k v) Q) :
    (St m N c ![3, 3, 1, 1] ![2, 2, 2, 2] : sProp 𝕄) ⊢ Runs c (
      k0_part9 xA hA oM hO xinB hX stgB hS r1B h1 r2B h2 cc0_scratch4 cc0_scratch5 cc0_scratch6 c v2 v5 v6 v7 >>= fun _ =>
      k0_part10 xA hA oM hO xinB hX stgB hS r1B h1 r2B h2 cc0_scratch4 cc0_scratch5 cc0_scratch6 c v2 v5 v6 v7 >>= fun _ =>
      k0_part11 xA hA oM hO xinB hX stgB hS r1B h1 r2B h2 cc0_scratch4 cc0_scratch5 cc0_scratch6 c v2 v6 v7 w1 w2 >>= k) Q := by
  simp only [k0_part9_eq_skeleton, k0_part10_eq_skeleton, k0_part11_eq_skeleton]
  unfold k0_part9_skel k0_part10_skel k0_part11_skel
  simp only [Prog.lift, Prog.bind_op, Prog.bind_ret, Prog.pure_eq_ret]
  refine st_copy m N c 0 1 ![3, 2, 2, 2] ?_ (by rfl) (by rfl) (by decide) (by rfl) (by rfl) (by rfl)
  refine st_copy m N c 1 1 ![3, 3, 2, 2] ?_ (by rfl) (by rfl) (by decide) (by rfl) (by rfl) (by rfl)
  refine st_send1 m N c 0 0 ![4, 3, 1, 1] ?_ (by rfl) (by rfl) (by decide) (by exact to_yn c (k0_dev7_eq c)) (by rfl) (by rfl)
    (by refine o128_of ?_ _; clear h; revert c; decide) (by rfl)
  refine st_send1 m N c 1 0 ![4, 4, 1, 1] ?_ (by rfl) (by rfl) (by decide) (by exact to_xn c (k0_dev8_eq c)) (by rfl) (by rfl)
    (by refine o128_of ?_ _; clear h; revert c; decide) (by rfl)
  refine st_wait m N c 0 0 ![5, 4, 1, 1] 1 ?_ (by rfl) (by rfl) (by decide) (by decide) (by decide) (by rfl) (by rfl) (by rfl) (by rfl)
  refine st_wait m N c 1 0 ![5, 5, 1, 1] 1 ?_ (by rfl) (by rfl) (by decide) (by decide) (by decide) (by rfl) (by rfl) (by rfl) (by rfl)
  refine st_sum2 m N c 0 0 ![6, 5, 1, 1] ?_ (by rfl) (by rfl) (by decide) (by decide) (by clear h; revert c; decide) (by rfl) (fun _ _ => rfl)
  refine st_sum2 m N c 1 0 ![6, 6, 1, 1] ?_ (by rfl) (by rfl) (by decide) (by decide) (by clear h; revert c; decide) (by rfl) (fun _ _ => rfl)
  exact st_send2 m N c 0 0 ![7, 6, 1, 1] (h _) (by rfl) (by rfl) (by decide) (by exact to_yn c (k0_dev9_eq c)) (by rfl) (by rfl)
    (by refine o128_of ?_ _; clear h; revert c; decide) (by refine o128_of ?_ _; clear h; revert c; decide)

end Cert.Quad

end
-- ==== Proof.Body2.lean ====
/-
The body, stretch by stretch: the last transfers of the first pair's round 0, its next start, and round 0 of the second pair.
-/
module

public import proofs.«01_k».proof.Proof.Body1

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (N : Dev nD × Fin 37 → ℕ) (c : Dev nD)

variable (hA : xA.IsWhole) (hO : oM.IsWhole) (hX : xinB.IsWhole) (hS : stgB.IsWhole) (h1 : r1B.IsWhole) (h2 : r2B.IsWhole)
  (v2 v5 v6 v7 w1 w2 w3 w4 : BitVec 32)

/-- First pair, round 0: steps 2 and 3, and the second loads arrive. -/
theorem seg_a3 {Q : PUnit → sProp 𝕄} {k : BitVec 32 → Prog (TpuEff nD τ sig (Elt F) Λ₀ Proc.tc) PUnit}
    (h : ∀ v, St m N c ![10, 10, 1, 1] ![4, 4, 2, 2] ⊢ Runs c (k v) Q) :
    (St m N c ![7, 6, 1, 1] ![3, 3, 2, 2] : sProp 𝕄) ⊢ Runs c (
      k0_part12 xA hA oM hO xinB hX stgB hS r1B h1 r2B h2 cc0_scratch4 cc0_scratch5 cc0_scratch6 c v2 v5 v6 v7 w1 w2 >>= fun _ =>
      k0_part13 xA hA oM hO xinB hX stgB hS r1B h1 r2B h2 cc0_scratch4 cc0_scratch5 cc0_scratch6 c v2 v5 v6 v7 >>= fun _ =>
      k0_part14 xA hA oM hO xinB hX stgB hS r1B h1 r2B h2 cc0_scratch4 cc0_scratch5 cc0_scratch6 c v2 v7 >>= k) Q := by
  simp only [k0_part12_eq_skeleton, k0_part13_eq_skeleton, k0_part14_eq_skeleton]
  unfold k0_part12_skel k0_part13_skel k0_part14_skel
  simp only [Prog.lift, Prog.bind_op, Prog.bind_ret, Prog.pure_eq_ret]
  refine st_send2 m N c 1 0 ![7, 7, 1, 1] ?_ (by rfl) (by rfl) (by decide) (by exact to_xn c (k0_dev10_eq c)) (by rfl) (by rfl)
    (by refine o128_of ?_ _; clear h; revert c; decide) (by refine o128_of ?_ _; clear h; revert c; decide)
  refine st_wait m N c 0 0 ![8, 7, 1, 1] 2 ?_ (by rfl) (by rfl) (by decide) (by decide) (by decide) (by rfl) (by rfl) (by rfl) (by rfl)
  refine st_wait m N c 1 0 ![8, 8, 1, 1] 2 ?_ (by rfl) (by rfl) (by decide) (by decide) (by decide) (by rfl) (by rfl) (by rfl) (by rfl)
  refine st_send3 m N c 0 0 ![9, 8, 1, 1] ?_ (by rfl) (by rfl) (by decide) (by exact to_xn c (k0_dev11_eq c)) (by rfl) (by rfl)
    (by refine o256_of ?_ _; clear h; revert c; decide) (by refine o256_of ?_ _; clear h; revert c; decide)
  refine st_send3 m N c 1 0 ![9, 9, 1, 1] ?_ (by rfl) (by rfl) (by decide) (by exact to_yn c (k0_dev12_eq c)) (by rfl) (by rfl)
    (by refine o256_of ?_ _; clear h; revert c; decide) (by refine o256_of ?_ _; clear h; revert c; decide)
  refine st_wait m N c 0 0 ![10, 9, 1, 1] 3 ?_ (by rfl) (by rfl) (by decide) (by decide) (by decide) (by rfl) (by rfl) (by rfl) (by rfl)
  refine st_wait m N c 1 0 ![10, 10, 1, 1] 3 ?_ (by rfl) (by rfl) (by decide) (by decide) (by decide) (by rfl) (by rfl) (by rfl) (by rfl)
  refine st_arrive m N c 0 1 ![4, 3, 2, 2] ?_ (by rfl) (by rfl) (by decide) (by rfl) (by rfl)
  exact st_arrive m N c 1 1 ![4, 4, 2, 2] (h _) (by rfl) (by rfl) (by decide) (by rfl) (by rfl)

/-- First pair, round 1: step 0 goes. -/
theorem seg_b0 {Q : PUnit → sProp 𝕄} {k : (Σ' (_ : BitVec 32) (_ : BitVec 32) (_ : BitVec 32), BitVec 32) → Prog (TpuEff nD τ sig (Elt F) Λ₀ Proc.tc) PUnit}
    (h : ∀ v, St m N c ![11, 11, 1, 1] ![4, 4, 2, 2] ⊢ Runs c (k v) Q) :
    (St m N c ![10, 10, 1, 1] ![4, 4, 2, 2] : sProp 𝕄) ⊢ Runs c (
      k0_part15 xA hA oM hO xinB hX stgB hS r1B h1 r2B h2 cc0_scratch4 cc0_scratch5 cc0_scratch6 c v2 v5 v6 w1 >>= fun x =>
      k0_part16 xA hA oM hO xinB hX stgB hS r1B h1 r2B h2 cc0_scratch4 cc0_scratch5 cc0_scratch6 c v2 v5 v7 x.1 x.2 >>= k) Q := by
  simp only [k0_part15_eq_skeleton, k0_part16_eq_skeleton]
  unfold k0_part15_skel k0_part16_skel
  simp only [Prog.lift, Prog.bind_op, Prog.bind_ret, Prog.pure_eq_ret]
  refine st_send0 m N c 0 1 ![11, 10, 1, 1] ?_ (by rfl) (by rfl) (by rfl) (by decide) (by exact to_xn c (k0_dev13_eq c)) (by rfl) (by rfl) (by rfl) (by rfl)
    (by clear h; revert c; decide) (by rfl) (fun _ => rfl)
  exact st_send0 m N c 1 1 ![11, 11, 1, 1] (h _) (by rfl) (by rfl) (by rfl) (by decide) (by exact to_yn c (k0_dev14_eq c)) (by rfl) (by rfl) (by rfl) (by rfl)
    (by clear h; revert c; decide) (by rfl) (fun _ => rfl)

/-- Second pair, round 0: the first sum. -/
theorem seg_b1 {Q : PUnit → sProp 𝕄} {k : PUnit → Prog (TpuEff nD τ sig (Elt F) Λ₀ Proc.tc) PUnit}
    (h : St m N c ![11, 11, 3, 3] ![4, 4, 2, 2] ⊢ Runs c (k ⟨⟩) Q) :
    (St m N c ![11, 11, 1, 1] ![4, 4, 2, 2] : sProp 𝕄) ⊢ Runs c (
      k0_part17 xA hA oM hO xinB hX stgB hS r1B h1 r2B h2 cc0_scratch4 cc0_scratch5 cc0_scratch6 v5 v6 >>= fun w =>
      k0_part18 xA hA oM hO xinB hX stgB hS r1B h1 r2B h2 cc0_scratch4 cc0_scratch5 cc0_scratch6 c v2 v5 v7 w1 w2 w >>= k) Q := by
  simp only [k0_part17_eq_skeleton, k0_part18_eq_skeleton]
  unfold k0_part17_skel k0_part18_skel
  simp only [Prog.lift, Prog.bind_op, Prog.bind_ret, Prog.pure_eq_ret]
  refine st_wait m N c 2 0 ![11, 11, 2, 1] 0 ?_ (by rfl) (by rfl) (by decide) (by decide) (by decide) (by rfl) (by rfl) (by rfl) (by rfl)
  refine st_wait m N c 3 0 ![11, 11, 2, 2] 0 ?_ (by rfl) (by rfl) (by decide) (by decide) (by decide) (by rfl) (by rfl) (by rfl) (by rfl)
  refine st_sum1 m N c 2 0 ![11, 11, 3, 2] ?_ (by rfl) (by rfl) (by rfl) (by decide) (by decide)
    (by clear h; revert c; decide) (by rfl) (by clear h; revert c; decide) (fun _ _ => rfl)
  exact st_sum1 m N c 3 0 ![11, 11, 3, 3] h (by rfl) (by rfl) (by rfl) (by decide) (by decide)
    (by clear h; revert c; decide) (by rfl) (by clear h; revert c; decide) (fun _ _ => rfl)

/-- Second pair, round 0: the second loads are asked for; step 1 and the second sum. -/
theorem seg_b2 {Q : PUnit → sProp 𝕄} {k : PUnit → Prog (TpuEff nD τ sig (Elt F) Λ₀ Proc.tc) PUnit}
    (h : St m N c ![11, 11, 6, 6] ![4, 4, 3, 3] ⊢ Runs c (k ⟨⟩) Q) :
    (St m N c ![11, 11, 3, 3] ![4, 4, 2, 2] : sProp 𝕄) ⊢ Runs c (
      k0_part19 xA hA oM hO xinB hX stgB hS r1B h1 r2B h2 cc0_scratch4 cc0_scratch5 cc0_scratch6 c v2 v5 v6 v7 >>= fun _ =>
      k0_part20 xA hA oM hO xinB hX stgB hS r1B h1 r2B h2 cc0_scratch4 cc0_scratch5 cc0_scratch6 c v2 v7 >>= fun w =>
      k0_part21 xA hA oM hO xinB hX stgB hS r1B h1 r2B h2 cc0_scratch4 cc0_scratch5 cc0_scratch6 c v2 v5 v6 v7 w1 w2 w >>= k) Q := by
  simp only [k0_part19_eq_skeleton, k0_part20_eq_skeleton, k0_part21_eq_skeleton]
  unfold k0_part19_skel k0_part20_skel k0_part21_skel
  simp only [Prog.lift, Prog.bind_op, Prog.bind_ret, Prog.pure_eq_ret]
  refine st_copy m N c 2 1 ![4, 4, 3, 2] ?_ (by rfl) (by rfl) (by decide) (by rfl) (by rfl) (by rfl)
  refine st_copy m N c 3 1 ![4, 4, 3, 3] ?_ (by rfl) (by rfl) (by decide) (by rfl) (by rfl) (by rfl)
  refine st_send1 m N c 2 0 ![11, 11, 4, 3] ?_ (by rfl) (by rfl) (by decide) (by exact to_yn c (k0_dev15_eq c)) (by rfl) (by rfl)
    (by refine o128_of ?_ _; clear h; revert c; decide) (by rfl)
  refine st_send1 m N c 3 0 ![11, 11, 4, 4] ?_ (by rfl) (by rfl) (by decide) (by exact to_xn c (k0_dev16_eq c)) (by rfl) (by rfl)
    (by refine o128_of ?_ _; clear h; revert c; decide) (by rfl)
  refine st_wait m N c 2 0 ![11, 11, 5, 4] 1 ?_ (by rfl) (by rfl) (by decide) (by decide) (by decide) (by rfl) (by rfl) (by rfl) (by rfl)
  refine st_wait m N c 3 0 ![11, 11, 5, 5] 1 ?_ (by rfl) (by rfl) (by decide) (by decide) (by decide) (by rfl) (by rfl) (by rfl) (by rfl)
  refine st_sum2 m N c 2 0 ![11, 11, 6, 5] ?_ (by rfl) (by rfl) (by decide) (by decide) (by clear h; revert c; decide) (by rfl) (fun _ _ => rfl)
  exact st_sum2 m N c 3 0 ![11, 11, 6, 6] h (by rfl) (by rfl) (by decide) (by decide) (by clear h; revert c; decide) (by rfl) (fun _ _ => rfl)

/-- Second pair, round 0: steps 2 and 3, and one of the second loads arrives. -/
theorem seg_b3 {Q : PUnit → sProp 𝕄} {k : PUnit → Prog (TpuEff nD τ sig (Elt F) Λ₀ Proc.tc) PUnit}
    (h : St m N c ![11, 11, 10, 10] ![4, 4, 4, 3] ⊢ Runs c (k ⟨⟩) Q) :
    (St m N c ![11, 11, 6, 6] ![4, 4, 3, 3] : sProp 𝕄) ⊢ Runs c (
      k0_part22 xA hA oM hO xinB hX stgB hS r1B h1 r2B h2 cc0_scratch4 cc0_scratch5 cc0_scratch6 c v2 v5 v6 v7 >>= fun w =>
      k0_part23 xA hA oM hO xinB hX stgB hS r1B h1 r2B h2 cc0_scratch4 cc0_scratch5 cc0_scratch6 c v2 v5 v6 v7 w >>= fun _ =>
      k0_part24 xA hA oM hO xinB hX stgB hS r1B h1 r2B h2 cc0_scratch4 cc0_scratch5 cc0_scratch6 c v2 v5 v6 v7 >>= k) Q := by
  simp only [k0_part22_eq_skeleton, k0_part23_eq_skeleton, k0_part24_eq_skeleton]
  unfold k0_part22_skel k0_part23_skel k0_part24_skel
  simp only [Prog.lift, Prog.bind_op, Prog.bind_ret, Prog.pure_eq_ret]
  refine st_send2 m N c 2 0 ![11, 11, 7, 6] ?_ (by rfl) (by rfl) (by decide) (by exact to_yn c (k0_dev17_eq c)) (by rfl) (by rfl)
    (by refine o128_of ?_ _; clear h; revert c; decide) (by refine o128_of ?_ _; clear h; revert c; decide)
  refine st_send2 m N c 3 0 ![11, 11, 7, 7] ?_ (by rfl) (by rfl) (by decide) (by exact to_xn c (k0_dev18_eq c)) (by rfl) (by rfl)
    (by refine o128_of ?_ _; clear h; revert c; decide) (by refine o128_of ?_ _; clear h; revert c; decide)
  refine st_wait m N c 2 0 ![11, 11, 8, 7] 2 ?_ (by rfl) (by rfl) (by decide) (by decide) (by decide) (by rfl) (by rfl) (by rfl) (by rfl)
  refine st_wait m N c 3 0 ![11, 11, 8, 8] 2 ?_ (by rfl) (by rfl) (by decide) (by decide) (by decide) (by rfl) (by rfl) (by rfl) (by rfl)
  refine st_send3 m N c 2 0 ![11, 11, 9, 8] ?_ (by rfl) (by rfl) (by decide) (by exact to_xn c (k0_dev19_eq c)) (by rfl) (by rfl)
    (by refine o256_of ?_ _; clear h; revert c; decide) (by refine o256_of ?_ _; clear h; revert c; decide)
  refine st_send3 m N c 3 0 ![11, 11, 9, 9] ?_ (by rfl) (by rfl) (by decide) (by exact to_yn c (k0_dev20_eq c)) (by rfl) (by rfl)
    (by refine o256_of ?_ _; clear h; revert c; decide) (by refine o256_of ?_ _; clear h; revert c; decide)
  refine st_wait m N c 2 0 ![11, 11, 10, 9] 3 ?_ (by rfl) (by rfl) (by decide) (by decide) (by decide) (by rfl) (by rfl) (by rfl) (by rfl)
  refine st_wait m N c 3 0 ![11, 11, 10, 10] 3 ?_ (by rfl) (by rfl) (by decide) (by decide) (by decide) (by rfl) (by rfl) (by rfl) (by rfl)
  exact st_arrive m N c 2 1 ![4, 4, 4, 3] h (by rfl) (by rfl) (by decide) (by rfl) (by rfl)

end Cert.Quad

end
-- ==== Proof.Body3.lean ====
/-
The body, stretch by stretch: round 1 of both pairs.
-/
module

public import proofs.«01_k».proof.Proof.Body2

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (N : Dev nD × Fin 37 → ℕ) (c : Dev nD)

variable (hA : xA.IsWhole) (hO : oM.IsWhole) (hX : xinB.IsWhole) (hS : stgB.IsWhole) (h1 : r1B.IsWhole) (h2 : r2B.IsWhole)
  (v2 v5 v6 v7 w1 w2 w3 w4 : BitVec 32)

/-- Second pair, round 1: step 0 goes. -/
theorem seg_c0 {Q : PUnit → sProp 𝕄} {k : (Σ' (_ : BitVec 32) (_ : BitVec 32) (_ : BitVec 32) (_ : BitVec 32), BitVec 32) → Prog (TpuEff nD τ sig (Elt F) Λ₀ Proc.tc) PUnit}
    (h : ∀ v, St m N c ![11, 11, 11, 11] ![4, 4, 4, 4] ⊢ Runs c (k v) Q) :
    (St m N c ![11, 11, 10, 10] ![4, 4, 4, 3] : sProp 𝕄) ⊢ Runs c (
      k0_part25 xA hA oM hO xinB hX stgB hS r1B h1 r2B h2 cc0_scratch4 cc0_scratch5 cc0_scratch6 c v2 v5 v6 >>= fun _ =>
      k0_part26 xA hA oM hO xinB hX stgB hS r1B h1 r2B h2 cc0_scratch4 cc0_scratch5 cc0_scratch6 c v2 v5 v7 >>= k) Q := by
  simp only [k0_part25_eq_skeleton, k0_part26_eq_skeleton]
  unfold k0_part25_skel k0_part26_skel
  simp only [Prog.lift, Prog.bind_op, Prog.bind_ret, Prog.pure_eq_ret]
  refine st_arrive m N c 3 1 ![4, 4, 4, 4] ?_ (by rfl) (by rfl) (by decide) (by rfl) (by rfl)
  refine st_send0 m N c 2 1 ![11, 11, 11, 10] ?_ (by rfl) (by rfl) (by rfl) (by decide) (by exact to_xn c (k0_dev21_eq c)) (by rfl) (by rfl) (by rfl) (by rfl)
    (by clear h; revert c; decide) (by rfl) (fun _ => rfl)
  exact st_send0 m N c 3 1 ![11, 11, 11, 11] (h _) (by rfl) (by rfl) (by rfl) (by decide) (by exact to_yn c (k0_dev22_eq c)) (by rfl) (by rfl) (by rfl) (by rfl)
    (by clear h; revert c; decide) (by rfl) (fun _ => rfl)

/-- First pair, round 1: the first sum; step 1 goes. -/
theorem seg_c1 {Q : PUnit → sProp 𝕄} {k : PUnit → Prog (TpuEff nD τ sig (Elt F) Λ₀ Proc.tc) PUnit}
    (h : St m N c ![14, 14, 11, 11] ![4, 4, 4, 4] ⊢ Runs c (k ⟨⟩) Q) :
    (St m N c ![11, 11, 11, 11] ![4, 4, 4, 4] : sProp 𝕄) ⊢ Runs c (
      k0_part27 xA hA oM hO xinB hX stgB hS r1B h1 r2B h2 cc0_scratch4 cc0_scratch5 cc0_scratch6 v5 v6 w1 w2 >>= fun _ =>
      k0_part28 xA hA oM hO xinB hX stgB hS r1B h1 r2B h2 cc0_scratch4 cc0_scratch5 cc0_scratch6 c v2 v5 v7 w3 >>= fun x =>
      k0_part29 xA hA oM hO xinB hX stgB hS r1B h1 r2B h2 cc0_scratch4 cc0_scratch5 cc0_scratch6 c v2 v5 v6 v7 w4 x.1 x.2 >>= k) Q := by
  simp only [k0_part27_eq_skeleton, k0_part28_eq_skeleton, k0_part29_eq_skeleton]
  unfold k0_part27_skel k0_part28_skel k0_part29_skel
  simp only [Prog.lift, Prog.bind_op, Prog.bind_ret, Prog.pure_eq_ret]
  refine st_wait m N c 0 1 ![12, 11, 11, 11] 0 ?_ (by rfl) (by rfl) (by decide) (by decide) (by decide) (by rfl) (by rfl) (by rfl) (by rfl)
  refine st_wait m N c 1 1 ![12, 12, 11, 11] 0 ?_ (by rfl) (by rfl) (by decide) (by decide) (by decide) (by rfl) (by rfl) (by rfl) (by rfl)
  refine st_sum1 m N c 0 1 ![13, 12, 11, 11] ?_ (by rfl) (by rfl) (by rfl) (by decide) (by decide)
    (by clear h; revert c; decide) (by rfl) (by clear h; revert c; decide) (fun _ _ => rfl)
  refine st_sum1 m N c 1 1 ![13, 13, 11, 11] ?_ (by rfl) (by rfl) (by rfl) (by decide) (by decide)
    (by clear h; revert c; decide) (by rfl) (by clear h; revert c; decide) (fun _ _ => rfl)
  refine st_send1 m N c 0 1 ![14, 13, 11, 11] ?_ (by rfl) (by rfl) (by decide) (by exact to_yn c (k0_dev23_eq c)) (by rfl) (by rfl)
    (by refine o128_of ?_ _; clear h; revert c; decide) (by rfl)
  exact st_send1 m N c 1 1 ![14, 14, 11, 11] h (by rfl) (by rfl) (by decide) (by exact to_xn c (k0_dev24_eq c)) (by rfl) (by rfl)
    (by refine o128_of ?_ _; clear h; revert c; decide) (by rfl)

/-- First pair, round 1: step 1 arrives; the second sum; step 2 of lane 0 goes. -/
theorem seg_c2 {Q : PUnit → sProp 𝕄} {k : PUnit → Prog (TpuEff nD τ sig (Elt F) Λ₀ Proc.tc) PUnit}
    (h : St m N c ![17, 16, 11, 11] ![4, 4, 4, 4] ⊢ Runs c (k ⟨⟩) Q) :
    (St m N c ![14, 14, 11, 11] ![4, 4, 4, 4] : sProp 𝕄) ⊢ Runs c (
      k0_part30 xA hA oM hO xinB hX stgB hS r1B h1 r2B h2 cc0_scratch4 cc0_scratch5 cc0_scratch6 c v2 v5 v6 v7 w1 >>= fun x =>
      k0_part31 xA hA oM hO xinB hX stgB hS r1B h1 r2B h2 cc0_scratch4 cc0_scratch5 cc0_scratch6 c v2 v5 v6 v7 w2 w3 x >>= k) Q := by
  simp only [k0_part30_eq_skeleton, k0_part31_eq_skeleton]
  unfold k0_part30_skel k0_part31_skel
  simp only [Prog.lift, Prog.bind_op, Prog.bind_ret, Prog.pure_eq_ret]
  refine st_wait m N c 0 1 ![15, 14, 11, 11] 1 ?_ (by rfl) (by rfl) (by decide) (by decide) (by decide) (by rfl) (by rfl) (by rfl) (by rfl)
  refine st_wait m N c 1 1 ![15, 15, 11, 11] 1 ?_ (by rfl) (by rfl) (by decide) (by decide) (by decide) (by rfl) (by rfl) (by rfl) (by rfl)
  refine st_sum2 m N c 0 1 ![16, 15, 11, 11] ?_ (by rfl) (by rfl) (by decide) (by decide) (by clear h; revert c; decide) (by rfl) (fun _ _ => rfl)
  refine st_sum2 m N c 1 1 ![16, 16, 11, 11] ?_ (by rfl) (by rfl) (by decide) (by decide) (by clear h; revert c; decide) (by rfl) (fun _ _ => rfl)
  exact st_send2 m N c 0 1 ![17, 16, 11, 11] h (by rfl) (by rfl) (by decide) (by exact to_yn c (k0_dev25_eq c)) (by rfl) (by rfl)
    (by refine o128_of ?_ _; clear h; revert c; decide) (by refine o128_of ?_ _; clear h; revert c; decide)

/-- First pair, round 1: steps 2 and 3. -/
theorem seg_c3 {Q : PUnit → sProp 𝕄} {k : (Σ' (_ : BitVec 32) (_ : BitVec 32) (_ : BitVec 32), BitVec 32) → Prog (TpuEff nD τ sig (Elt F) Λ₀ Proc.tc) PUnit}
    (h : ∀ v, St m N c ![20, 20, 11, 11] ![4, 4, 4, 4] ⊢ Runs c (k v) Q) :
    (St m N c ![17, 16, 11, 11] ![4, 4, 4, 4] : sProp 𝕄) ⊢ Runs c (
      k0_part32 xA hA oM hO xinB hX stgB hS r1B h1 r2B h2 cc0_scratch4 cc0_scratch5 cc0_scratch6 c v2 v5 v6 v7 >>= fun x =>
      k0_part33 xA hA oM hO xinB hX stgB hS r1B h1 r2B h2 cc0_scratch4 cc0_scratch5 cc0_scratch6 c v2 v5 v6 v7 x.1 x.2 >>= fun _ =>
      k0_part34 xA hA oM hO xinB hX stgB hS r1B h1 r2B h2 cc0_scratch4 cc0_scratch5 cc0_scratch6 c v2 v5 v7 >>= k) Q := by
  simp only [k0_part32_eq_skeleton, k0_part33_eq_skeleton, k0_part34_eq_skeleton]
  unfold k0_part32_skel k0_part33_skel k0_part34_skel
  simp only [Prog.lift, Prog.bind_op, Prog.bind_ret, Prog.pure_eq_ret]
  refine st_send2 m N c 1 1 ![17, 17, 11, 11] ?_ (by rfl) (by rfl) (by decide) (by exact to_xn c (k0_dev26_eq c)) (by rfl) (by rfl)
    (by refine o128_of ?_ _; clear h; revert c; decide) (by refine o128_of ?_ _; clear h; revert c; decide)
  refine st_wait m N c 0 1 ![18, 17, 11, 11] 2 ?_ (by rfl) (by rfl) (by decide) (by decide) (by decide) (by rfl) (by rfl) (by rfl) (by rfl)
  refine st_wait m N c 1 1 ![18, 18, 11, 11] 2 ?_ (by rfl) (by rfl) (by decide) (by decide) (by decide) (by rfl) (by rfl) (by rfl) (by rfl)
  refine st_send3 m N c 0 1 ![19, 18, 11, 11] ?_ (by rfl) (by rfl) (by decide) (by exact to_xn c (k0_dev27_eq c)) (by rfl) (by rfl)
    (by refine o256_of ?_ _; clear h; revert c; decide) (by refine o256_of ?_ _; clear h; revert c; decide)
  refine st_send3 m N c 1 1 ![19, 19, 11, 11] ?_ (by rfl) (by rfl) (by decide) (by exact to_yn c (k0_dev28_eq c)) (by rfl) (by rfl)
    (by refine o256_of ?_ _; clear h; revert c; decide) (by refine o256_of ?_ _; clear h; revert c; decide)
  refine st_wait m N c 0 1 ![20, 19, 11, 11] 3 ?_ (by rfl) (by rfl) (by decide) (by decide) (by decide) (by rfl) (by rfl) (by rfl) (by rfl)
  exact st_wait m N c 1 1 ![20, 20, 11, 11] 3 (h _) (by rfl) (by rfl) (by decide) (by decide) (by decide) (by rfl) (by rfl) (by rfl) (by rfl)

/-- Second pair, round 1: the first sum. -/
theorem seg_d1 {Q : PUnit → sProp 𝕄} {k : (Σ' (_ : BitVec 32), BitVec 32) → Prog (TpuEff nD τ sig (Elt F) Λ₀ Proc.tc) PUnit}
    (h : ∀ v, St m N c ![20, 20, 13, 13] ![4, 4, 4, 4] ⊢ Runs c (k v) Q) :
    (St m N c ![20, 20, 11, 11] ![4, 4, 4, 4] : sProp 𝕄) ⊢ Runs c (
      k0_part35 xA hA oM hO xinB hX stgB hS r1B h1 r2B h2 cc0_scratch4 cc0_scratch5 cc0_scratch6 v2 v5 v6 v7 >>= fun _ =>
      k0_part36 xA hA oM hO xinB hX stgB hS r1B h1 r2B h2 cc0_scratch4 cc0_scratch5 cc0_scratch6 c v2 v5 w1 w2 >>= k) Q := by
  simp only [k0_part35_eq_skeleton, k0_part36_eq_skeleton]
  unfold k0_part35_skel k0_part36_skel
  simp only [Prog.lift, Prog.bind_op, Prog.bind_ret, Prog.pure_eq_ret]
  refine st_wait m N c 2 1 ![20, 20, 12, 11] 0 ?_ (by rfl) (by rfl) (by decide) (by decide) (by decide) (by rfl) (by rfl) (by rfl) (by rfl)
  refine st_wait m N c 3 1 ![20, 20, 12, 12] 0 ?_ (by rfl) (by rfl) (by decide) (by decide) (by decide) (by rfl) (by rfl) (by rfl) (by rfl)
  refine st_sum1 m N c 2 1 ![20, 20, 13, 12] ?_ (by rfl) (by rfl) (by rfl) (by decide) (by decide)
    (by clear h; revert c; decide) (by rfl) (by clear h; revert c; decide) (fun _ _ => rfl)
  exact st_sum1 m N c 3 1 ![20, 20, 13, 13] (h _) (by rfl) (by rfl) (by rfl) (by decide) (by decide)
    (by clear h; revert c; decide) (by rfl) (by clear h; revert c; decide) (fun _ _ => rfl)

/-- Second pair, round 1: the rest. -/
theorem seg_d2 {Q : PUnit → sProp 𝕄} {k : PUnit → Prog (TpuEff nD τ sig (Elt F) Λ₀ Proc.tc) PUnit}
    {q : DmaSem sig} (hq : q = rvSem 3 3) {sp₃ sp₄ : Space} {s₃ s₄ : Shape} {t₃ t₄ : EltTy}
    {M₃ : Memref sig .tc sp₃ s₃ t₃} {M₄ : Memref sig .tc sp₄ s₄ t₄} (hn : M₄.view.dmaCredit = NS 3)
    {i₃ : M₃.view.WordExact} {i₄ : M₄.view.WordExact}
    (h : St m N c ![20, 20, 20, 20] ![4, 4, 4, 4] ⊢ Runs c (k ⟨⟩) Q) :
    (St m N c ![20, 20, 13, 13] ![4, 4, 4, 4] : sProp 𝕄) ⊢ Runs c (
      k0_part37 xA hA oM hO xinB hX stgB hS r1B h1 r2B h2 cc0_scratch4 cc0_scratch5 cc0_scratch6 c v2 v5 v6 v7 w1 w2 >>= fun _ =>
      k0_part38 xA hA oM hO xinB hX stgB hS r1B h1 r2B h2 cc0_scratch4 cc0_scratch5 cc0_scratch6 c v5 v6 w3 w4 >>= fun _ =>
      k0_part39 xA hA oM hO xinB hX stgB hS r1B h1 r2B h2 cc0_scratch4 cc0_scratch5 cc0_scratch6 c v2 v5 v6 v7 w4 >>= fun _ =>
      k0_part40 xA hA oM hO xinB hX stgB hS r1B h1 r2B h2 cc0_scratch4 cc0_scratch5 cc0_scratch6 c v2 v5 v6 v7 >>= fun _ =>
      k0_part41 xA hA oM hO xinB hX stgB hS r1B h1 r2B h2 cc0_scratch4 cc0_scratch5 cc0_scratch6 c v2 v5 v6 v7 >>= fun _ =>
      Prog.lift (.waitDma2 q M₃ M₄ i₃ i₄) >>= k) Q := by
  simp only [k0_part37_eq_skeleton, k0_part38_eq_skeleton, k0_part39_eq_skeleton, k0_part40_eq_skeleton, k0_part41_eq_skeleton]
  unfold k0_part37_skel k0_part38_skel k0_part39_skel k0_part40_skel k0_part41_skel
  simp only [Prog.lift, Prog.bind_op, Prog.bind_ret, Prog.pure_eq_ret]
  refine st_send1 m N c 2 1 ![20, 20, 14, 13] ?_ (by rfl) (by rfl) (by decide) (by exact to_yn c (k0_dev29_eq c)) (by rfl) (by rfl)
    (by refine o128_of ?_ _; clear h; revert c; decide) (by rfl)
  refine st_send1 m N c 3 1 ![20, 20, 14, 14] ?_ (by rfl) (by rfl) (by decide) (by exact to_xn c (k0_dev30_eq c)) (by rfl) (by rfl)
    (by refine o128_of ?_ _; clear h; revert c; decide) (by rfl)
  refine st_wait m N c 2 1 ![20, 20, 15, 14] 1 ?_ (by rfl) (by rfl) (by decide) (by decide) (by decide) (by rfl) (by rfl) (by rfl) (by rfl)
  refine st_wait m N c 3 1 ![20, 20, 15, 15] 1 ?_ (by rfl) (by rfl) (by decide) (by decide) (by decide) (by rfl) (by rfl) (by rfl) (by rfl)
  refine st_sum2 m N c 2 1 ![20, 20, 16, 15] ?_ (by rfl) (by rfl) (by decide) (by decide) (by clear h; revert c; decide) (by rfl) (fun _ _ => rfl)
  refine st_sum2 m N c 3 1 ![20, 20, 16, 16] ?_ (by rfl) (by rfl) (by decide) (by decide) (by clear h; revert c; decide) (by rfl) (fun _ _ => rfl)
  refine st_send2 m N c 2 1 ![20, 20, 17, 16] ?_ (by rfl) (by rfl) (by decide) (by exact to_yn c (k0_dev31_eq c)) (by rfl) (by rfl)
    (by refine o128_of ?_ _; clear h; revert c; decide) (by refine o128_of ?_ _; clear h; revert c; decide)
  refine st_send2 m N c 3 1 ![20, 20, 17, 17] ?_ (by rfl) (by rfl) (by decide) (by exact to_xn c (k0_dev32_eq c)) (by rfl) (by rfl)
    (by refine o128_of ?_ _; clear h; revert c; decide) (by refine o128_of ?_ _; clear h; revert c; decide)
  refine st_wait m N c 2 1 ![20, 20, 18, 17] 2 ?_ (by rfl) (by rfl) (by decide) (by decide) (by decide) (by rfl) (by rfl) (by rfl) (by rfl)
  refine st_wait m N c 3 1 ![20, 20, 18, 18] 2 ?_ (by rfl) (by rfl) (by decide) (by decide) (by decide) (by rfl) (by rfl) (by rfl) (by rfl)
  refine st_send3 m N c 2 1 ![20, 20, 19, 18] ?_ (by rfl) (by rfl) (by decide) (by exact to_xn c (k0_dev33_eq c)) (by rfl) (by rfl)
    (by refine o256_of ?_ _; clear h; revert c; decide) (by refine o256_of ?_ _; clear h; revert c; decide)
  refine st_send3 m N c 3 1 ![20, 20, 19, 19] ?_ (by rfl) (by rfl) (by decide) (by exact to_yn c (k0_dev34_eq c)) (by rfl) (by rfl)
    (by refine o256_of ?_ _; clear h; revert c; decide) (by refine o256_of ?_ _; clear h; revert c; decide)
  refine st_wait m N c 2 1 ![20, 20, 20, 19] 3 ?_ (by rfl) (by rfl) (by decide) (by decide) (by decide) (by rfl) (by rfl) (by rfl) (by rfl)
  exact st_wait m N c 3 1 ![20, 20, 20, 20] 3 h (by rfl) (by rfl) (by decide) (by decide) (by decide) (by rfl) hq (by rfl) hn

end Cert.Quad

end
-- ==== Proof.Meet.lean ====
/-
The barrier: every device hands its landing slots, and the rows its neighbours finish for it, to the neighbour that
writes them, and starts its first load.
-/
module

public import proofs.«01_k».proof.Proof.Body3

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (N : Dev nD × Fin 37 → ℕ) (c : Dev nD)

/-! ## What a lane starts with -/

/-- A lane's part that stays through the barrier. -/
def laneMid (i : Fin 4) : sProp 𝕄 :=
  iprop(anyM c (stgS i) ∗ (anyRows c (kp i 0 c) 256 ∗ anyRows c (kp i 1 c) 256) ∗ (pos i 0 0 c ∗ pos i 1 0 c ∗ pos i 2 0 c ∗ pos i 3 0 c)
    ∗ (kit i 0 0 c ∗ kit i 1 0 c ∗ kit i 2 0 c ∗ kit i 3 0 c) ∗ kit i 0 1 c ∗ kit i 1 1 c ∗ kit i 2 1 c ∗ kit i 3 1 c)
/-- The part that is handed over. -/
def laneOut (i : Fin 4) : sProp 𝕄 := iprop(Hand1 i (nb1 i c) ∗ Hand2 i (nb2 i c))

omit [FloatOps F] in
theorem lane_out (i : Fin 4) :
    iprop(anyM c (r1S i) ∗ anyM c (r2S i) ∗ anyRows c (ot i 0 c) 256 ∗ anyRows c (ot i 1 c) 256) ⊢ (laneOut c i : sProp 𝕄) := by
  have h0 : kp i 0 (nb1 i c) = ot i 0 c := by revert i c; decide
  have h1 : kp i 1 (nb1 i c) = ot i 1 c := by revert i c; decide
  unfold laneOut Hand1 Hand2
  rw [nb1_nb1, nb2_nb2, h0, h1]
  iintro ⟨H1, H2, H3, H4⟩
  isplitr [H2]
  · isplitl [H1]; · iexact H1
    isplitl [H3] <;> iassumption
  iexact H2

theorem lane_ready (i : Fin 4) : iprop(recs m N ∗ laneMid c i ∗ Hand1 i c ∗ Hand2 i c) ⊢ E0 m i 0 c := by
  unfold laneMid Hand1 Hand2 E0
  rw [show (Give1 i 0 c : sProp 𝕄) = iprop(anyM (nb1 i c) (r1S i) ∗ reached ER (rvCell i 0 (nb1 i c)) 0) from rfl,
    show (Give2 i 0 c : sProp 𝕄) = iprop(anyM (nb2 i c) (r2S i) ∗ reached ER (rvCell i 1 (nb2 i c)) 0) from rfl,
    show (Keep1 i 0 c : sProp 𝕄) = iprop(emp) from rfl, show (Keep2 i 0 c : sProp 𝕄) = iprop(emp) from rfl,
    show (pend i 0 c : sProp 𝕄) = iprop(fut i 0 c ∗ fut i 1 c) from rfl, show (past m i 0 c : sProp 𝕄) = iprop(emp) from rfl]
  unfold fut
  iintro ⟨#HR, ⟨Hs, ⟨Hr0, Hr1⟩, ⟨Hp0, Hp1, Hp2, Hp3⟩, Hk, Hk'⟩, ⟨HX, Ho0, Ho1⟩, HY⟩
  isplitl [Hs]; · iexact Hs
  isplitl [HX]
  · isplitl [HX]; · iexact HX
    iapply (reached_dma m N (nb1 i c) (rvSem i 0) (rvSem_ne i 0)); iexact HR
  isplitl [HY]
  · isplitl [HY]; · iexact HY
    iapply (reached_dma m N (nb2 i c) (rvSem i 1) (rvSem_ne i 1)); iexact HR
  isplitr; · itrivial
  isplitr; · itrivial
  isplitl [Hp0]; · iexact Hp0
  isplitl [Hp1]; · iexact Hp1
  isplitl [Hp2]; · iexact Hp2
  isplitl [Hp3]; · iexact Hp3
  isplitl
  · isplitl [Hr0 Ho0 Hk]
    · isplitl [Hr0]; · iexact Hr0
      isplitl [Ho0] <;> iassumption
    · isplitl [Hr1]; · iexact Hr1
      isplitl [Ho1] <;> iassumption
  · itrivial

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem deal : (bigSep Finset.univ fun i => laneOut c i : sProp 𝕄) ⊢ iprop(barPay (xn c) true ∗ barPay (yn c) false) := by
  rw [four]
  unfold laneOut barPay
  rw [show nb1 0 c = xn c from rfl, show nb1 1 c = yn c from rfl, show nb1 2 c = xn c from rfl, show nb1 3 c = yn c from rfl,
    show nb2 0 c = yn c from rfl, show nb2 1 c = xn c from rfl, show nb2 2 c = yn c from rfl, show nb2 3 c = xn c from rfl]
  iintro ⟨⟨A0, B0⟩, ⟨A1, B1⟩, ⟨A2, B2⟩, ⟨A3, B3⟩⟩
  isplitl [A0 A2 B1 B3]
  · isplitl [A0]; · iexact A0
    isplitl [A2]; · iexact A2
    isplitl [B1] <;> iassumption
  · isplitl [A1]; · iexact A1
    isplitl [A3]; · iexact A3
    isplitl [B0] <;> iassumption

omit [FloatOps F] in
theorem got : iprop(barPay c false ∗ barPay c true) ⊢ (bigSep Finset.univ fun i => iprop(Hand1 i c ∗ Hand2 i c) : sProp 𝕄) := by
  rw [four]
  unfold barPay
  iintro ⟨⟨A1, A3, B0, B2⟩, A0, A2, B1, B3⟩
  isplitl [A0 B0]; · isplitl [A0] <;> iassumption
  isplitl [A1 B1]; · isplitl [A1] <;> iassumption
  isplitl [A2 B2]; · isplitl [A2] <;> iassumption
  isplitl [A3] <;> iassumption

/-- What a device owes at the start. -/
def O₁ : CellTallies nD τ sig ℕ := Ow c ![0, 0, 0, 0] + tallyAt (barCell (yn c)) 0 1
def O₀ : CellTallies nD τ sig ℕ := O₁ c + tallyAt (barCell (xn c)) 0 1

/-- What a device holds when its body starts. -/
def Begin : sProp 𝕄 :=
  iprop(recs m N ∗ (∃ W, owes (c : Thread nD τ) (O₀ c) W) ∗ (cred (tallyAt (barCell c) 0 2) ∗ atPos ER (barCell c) 0 ∅ 0)
    ∗ (dutyTok ER (barCell (xn c)) 0 true ∗ dutyTok ER (barCell (yn c)) 0 false)
    ∗ (bigSep Finset.univ fun i => laneOut c i) ∗ (bigSep Finset.univ fun i => laneMid c i) ∗ (bigSep Finset.univ fun i => idle m i 0 c))

omit [FloatOps F] in
theorem with_each {R : sProp 𝕄} [BI.Persistent R] {Φ Ψ : Fin 4 → sProp 𝕄} (h : ∀ i, iprop(R ∗ Φ i) ⊢ Ψ i) :
    iprop(R ∗ bigSep Finset.univ Φ) ⊢ bigSep Finset.univ Ψ := by
  rw [four, four]
  iintro ⟨#HR, H0, H1, H2, H3⟩
  isplitl [H0]; · iapply (h 0); isplitr [H0] <;> iassumption
  isplitl [H1]; · iapply (h 1); isplitr [H1] <;> iassumption
  isplitl [H2]; · iapply (h 2); isplitr [H2] <;> iassumption
  iapply (h 3); isplitr [H3] <;> iassumption

theorem begun : iprop(recs m N ∗ Owes c ![0, 0, 0, 0] ∗ (barPay c false ∗ barPay c true) ∗ (bigSep Finset.univ fun i => laneMid c i)
      ∗ (bigSep Finset.univ fun i => idle m i 0 c)) ⊢ St m N c ![0, 0, 0, 0] ![0, 0, 0, 0] := by
  have e0 : (bigSep Finset.univ fun i => Ex m i ((![0, 0, 0, 0] : Fin 4 → ℕ) i) c : sProp 𝕄) = bigSep Finset.univ fun i => E0 m i 0 c :=
    bigSep_congr fun i _ => by fin_cases i <;> rfl
  have e1 : (bigSep Finset.univ fun i => Sl m i ((![0, 0, 0, 0] : Fin 4 → ℕ) i) c : sProp 𝕄) = bigSep Finset.univ fun i => idle m i 0 c :=
    bigSep_congr fun i _ => by fin_cases i <;> rfl
  unfold St
  rw [e0, e1]
  iintro ⟨#HR, HO, HB, HM, HI⟩
  ihave HG := (got c) $$ HB
  isplitr; · iexact HR
  isplitl [HO]; · iexact HO
  isplitr [HI]
  · iapply (with_each (R := recs m N) (Φ := fun i => iprop(laneMid c i ∗ Hand1 i c ∗ Hand2 i c)) (lane_ready m N c))
    isplitr; · iexact HR
    rw [bigSep_sep' Finset.univ (fun i => laneMid c i) (fun i => iprop(Hand1 i c ∗ Hand2 i c))]
    isplitl [HM] <;> iassumption
  · iexact HI

/-- The barrier and the first load. -/
theorem seg_meet (hA : xA.IsWhole) (hO : oM.IsWhole) (hX : xinB.IsWhole) (hS : stgB.IsWhole) (h1 : r1B.IsWhole) (h2 : r2B.IsWhole)
    {Q : PUnit → sProp 𝕄}
    {k : (Σ' (_ : Dev nD) (_ : BitVec 32) (_ : BitVec 32) (_ : BitVec 32), BitVec 32) → Prog (TpuEff nD τ sig (Elt F) Λ₀ Proc.tc) PUnit}
    (h : ∀ v : Σ' (_ : Dev nD) (_ : BitVec 32) (_ : BitVec 32) (_ : BitVec 32), BitVec 32, v.1 = c →
      St m N c ![0, 0, 0, 0] ![1, 0, 0, 0] ⊢ Runs c (k v) Q) :
    (Begin m N c : sProp 𝕄) ⊢ Runs c (
      k0_part1 xA hA oM hO xinB hX stgB hS r1B h1 r2B h2 cc0_scratch4 cc0_scratch5 cc0_scratch6 >>= k)
      (fun u => iprop(Q u ∗ atPos ER (barCell c) (0 + 1) ∅ 0)) := by
  simp only [k0_part1_eq_skeleton]
  unfold k0_part1_skel
  simp only [semSignalWord, semWaitWord, Prog.lift, Prog.bind_op, Prog.bind_ret, Prog.pure_eq_ret, wp_deviceId]
  rw [show (⟨k0_dev1 c, k0_dev1_lt c⟩ : Dev nD) = xn c from to_xn c (k0_dev1_eq c),
    show (⟨k0_dev2 c, k0_dev2_lt c⟩ : Dev nD) = yn c from to_yn c (k0_dev2_eq c)]
  have hd : ∀ (n : Dev nD) (b : Bool), b ∈ (Rd (F := F) m).duties (barCell n) 0 := fun n b => by
    rw [Rd_duties, role_bar]; exact Finset.mem_univ b
  unfold Begin O₀
  iintro ⟨#HR, ⟨%W, HO⟩, ⟨Hc, Ha⟩, ⟨Htx, Hty⟩, HG, HM, HI⟩
  ihave HG := (deal c) $$ HG
  icases HG with ⟨Hgx, Hgy⟩
  iapply (Rounds.wp_signal Variants.none ER (Rd m) (c : Thread nD τ) none (dst := (xn c : Thread nD τ)) (κ := N (xn c, 0))
    (d := true) (hd _ _) (by rfl) 0 (O₁ c) rfl) $$ [HO Htx Hgx]
  · isplitr; · iapply (inv_bar m N (xn c)); iexact HR
    isplitl [HO]; · iexact HO
    isplitl [Htx]; · iexact Htx
    isplitl [Hgx]; · rw [pay_bar]; iexact Hgx
    iapply (reached_bar m N (xn c)); iexact HR
  iintro HO
  unfold O₁
  iapply (Rounds.wp_signal Variants.none ER (Rd m) (c : Thread nD τ) none (dst := (yn c : Thread nD τ)) (κ := N (yn c, 0))
    (d := false) (hd _ _) (by rfl) 0 (Ow c ![0, 0, 0, 0]) rfl) $$ [HO Hty Hgy]
  · isplitr; · iapply (inv_bar m N (yn c)); iexact HR
    isplitl [HO]; · iexact HO
    isplitl [Hty]; · iexact Hty
    isplitl [Hgy]; · rw [pay_bar]; iexact Hgy
    iapply (reached_bar m N (yn c)); iexact HR
  iintro HO
  iapply (Rounds.wp_wait_rest_token Variants.none ER (Rd m) (c : Thread nD τ) none (κ := N (c, 0))
    (wpE_semWait_eq Variants.none (c : Thread nD τ) none Set.univ) (Set.mem_univ _) 0 (O := Ow c ![0, 0, 0, 0]) (W := W) (R := 0) (m := 0) (T := ∅)
    (by rw [expect_bar]; rfl)) $$ [Hc HO Ha]
  · isplitr; · iapply (inv_bar m N c); iexact HR
    isplitl [Hc]; · iexact Hc
    isplitl [HO]; · iexact HO
    isplitr
    · iapply (mayWait c (.reg barS) (u := 0) (by decide) ![0, 0, 0, 0] (by rw [role_bar]; decide))
      iapply (recs_lev m N); iexact HR
    iexact Ha
  iintro ⟨HO, Ha, -, HP⟩
  ihave HP := (Entails.of_eq (rest_bar m c)) $$ HP
  ihave HS := (begun m N c) $$ [HO HP HM HI]
  · isplitr; · iexact HR
    isplitl [HO]; · unfold Owes; iexists _; iexact HO
    isplitl [HP]; · iexact HP
    isplitl [HM] <;> iassumption
  iapply (wp_frame_r _ _ _)
  isplitl [HS]
  · iapply (st_copy m N c 0 0 (e := ![0, 0, 0, 0]) (l := ![0, 0, 0, 0]) ![1, 0, 0, 0] (h _ (by rfl)) (by rfl) (by rfl) (by decide) (by rfl) (by rfl) (by rfl))
    iexact HS
  iexact Ha

end Cert.Quad

end
-- ==== Proof.Body.lean ====
/-
The whole body of one device: the steps one after another.
-/
module

public import proofs.«01_k».proof.Proof.Meet

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (N : Dev nD × Fin 37 → ℕ) (c : Dev nD)

theorem run_body (hA : xA.IsWhole) (hO : oM.IsWhole) (hX : xinB.IsWhole) (hS : stgB.IsWhole) (h1 : r1B.IsWhole) (h2 : r2B.IsWhole) :
    (Begin m N c : sProp 𝕄) ⊢ Runs c (cc0_body xA hA oM hO xinB hX stgB hS r1B h1 r2B h2 cc0_scratch4 cc0_scratch5 cc0_scratch6)
      (fun _ => iprop(St m N c ![20, 20, 20, 20] ![4, 4, 4, 4] ∗ atPos ER (barCell c) (0 + 1) ∅ 0)) := by
  rw [cc0_body_eq_skeleton]
  unfold cc0_body_skel
  refine seg_meet m N c hA hO hX hS h1 h2 ?_
  rintro ⟨d, v2, v5, v6, v7⟩ hv
  obtain rfl : d = c := hv
  refine seg_start m N _ hA hO hX hS h1 h2 _ _ _ _ (fun _ => ?_)
  refine seg_a1 m N _ hA hO hX hS h1 h2 _ _ _ _ _ _ ?_
  refine seg_a2 m N _ hA hO hX hS h1 h2 _ _ _ _ _ _ (fun _ => ?_)
  refine seg_a3 m N _ hA hO hX hS h1 h2 _ _ _ _ _ _ (fun _ => ?_)
  refine seg_b0 m N _ hA hO hX hS h1 h2 _ _ _ _ _ (fun _ => ?_)
  refine seg_b1 m N _ hA hO hX hS h1 h2 _ _ _ _ _ _ ?_
  refine seg_b2 m N _ hA hO hX hS h1 h2 _ _ _ _ _ _ ?_
  refine seg_b3 m N _ hA hO hX hS h1 h2 _ _ _ _ ?_
  refine seg_c0 m N _ hA hO hX hS h1 h2 _ _ _ _ (fun _ => ?_)
  refine seg_c1 m N _ hA hO hX hS h1 h2 _ _ _ _ _ _ _ _ ?_
  refine seg_c2 m N _ hA hO hX hS h1 h2 _ _ _ _ _ _ _ ?_
  refine seg_c3 m N _ hA hO hX hS h1 h2 _ _ _ _ (fun _ => ?_)
  refine seg_d1 m N _ hA hO hX hS h1 h2 _ _ _ _ _ _ (fun _ => ?_)
  refine seg_d2 m N _ hA hO hX hS h1 h2 _ _ _ _ _ _ _ _ (by decide) (by rfl) ?_
  exact fupd_intro

end Cert.Quad

end
-- ==== Proof.Split.lean ====
/-
The buffers cut into the slots and rows the lanes work on, and put together again.
-/
module

public import proofs.«01_k».proof.Proof.Body
public import Idealize.ShloMosaic.Lib.Ring

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The sets -/

theorem slots_cover {n : ℕ} {J : Fin 4 → Finset (⟨4, ![2, 2, n, 2048]⟩ : Shape).Idx}
    (h : ∀ (i : Fin 4) (x : (⟨4, ![2, 2, n, 2048]⟩ : Shape).Idx), Iff (x ∈ J i) ((x 0).val = i.val / 2 ∧ (x 1).val = i.val % 2)) :
    (∀ b b', b ≠ b' → Disjoint (J b) (J b')) ∧ Finset.univ.biUnion J = Finset.univ := by
  constructor
  · intro b b' hb
    rw [Finset.disjoint_left]
    intro x hx hx'
    have h1 := (h b x).mp hx
    have h2 := (h b' x).mp hx'
    exact hb (Fin.ext (by omega))
  · refine Finset.eq_univ_iff_forall.mpr fun x => ?_
    have h0 : (x 0).val < 2 := (x 0).isLt
    have h1 : (x 1).val < 2 := (x 1).isLt
    rw [Finset.mem_biUnion]
    refine ⟨⟨2 * (x 0).val + (x 1).val, by omega⟩, Finset.mem_univ _, (h _ x).mpr ?_⟩
    constructor
    · show (x 0).val = (2 * (x 0).val + (x 1).val) / 2; omega
    · show (x 1).val = (2 * (x 0).val + (x 1).val) % 2; omega

theorem rset_cover {B : Type} [Fintype B] [DecidableEq B] {n k : ℕ} (lo : B → ℕ) (φ : B → Fin k) (hk : n * k = 4096) (hn : 0 < n)
    (hlo : ∀ b, lo b = n * (φ b).val) (hφ : Function.Bijective φ) :
    (∀ b b', b ≠ b' → Disjoint (rset (lo b) n) (rset (lo b') n)) ∧ (Finset.univ.biUnion fun b => rset (lo b) n) = Finset.univ := by
  have key : ∀ b (x : S4096x2048.Idx), x ∈ rset (lo b) n → (x 0).val / n = (φ b).val := fun b x hx => by
    rw [mem_rset, hlo] at hx
    refine Nat.div_eq_of_lt_le ?_ ?_
    · rw [Nat.mul_comm]; exact hx.1
    · rw [Nat.mul_comm, Nat.mul_add, Nat.mul_one]; exact hx.2
  constructor
  · intro b b' hb
    rw [Finset.disjoint_left]
    intro x hx hx'
    exact hb (hφ.1 (Fin.ext ((key b x hx).symm.trans (key b' x hx'))))
  · refine Finset.eq_univ_iff_forall.mpr fun x => ?_
    have hx := idx2_lt0 x
    obtain ⟨b, hb⟩ := hφ.2 ⟨(x 0).val / n, Nat.div_lt_of_lt_mul (by rw [hk]; exact hx)⟩
    rw [Finset.mem_biUnion]
    refine ⟨b, Finset.mem_univ _, (mem_rset x).mpr ?_⟩
    rw [hlo, hb]
    exact ⟨Nat.mul_div_le _ _, Nat.lt_mul_div_succ _ hn⟩

/-! ## A buffer in blocks -/

section Blocks
variable {ℓ : Loc nD τ sig} {B : Type} [Fintype B] [DecidableEq B] {I : B → Finset (Idx ℓ)}
  (h : (∀ b b', b ≠ b' → Disjoint (I b) (I b')) ∧ Finset.univ.biUnion I = Finset.univ)

omit [FloatOps F] in
include h in
theorem blocks_out {Φ : B → sProp 𝕄} (hΦ : ∀ b, iprop(∃ f : Buf (Elt F) ℓ, ℓ ↦[I b]{fullShare} f) ⊢ Φ b) :
    (iprop(∃ f : Buf (Elt F) ℓ, ℓ ↦{fullShare} f) : sProp 𝕄) ⊢ bigSep Finset.univ Φ := by
  iintro ⟨%f, H⟩
  ihave H := (Entails.of_eq (Ring.pointsTo_blocks I h.1 h.2 f)) $$ H
  have hm : ∀ b, (iprop(ℓ ↦[I b]{fullShare} f) : sProp 𝕄) ⊢ Φ b := fun b => by
    refine BI.Entails.trans ?_ (hΦ b)
    show (iprop(ℓ ↦[I b]{fullShare} f) : sProp 𝕄) ⊢ iprop(∃ f : Buf (Elt F) ℓ, ℓ ↦[I b]{fullShare} f)
    iintro H; iexists f; iexact H
  iapply (show (bigSep Finset.univ fun b => iprop(ℓ ↦[I b]{fullShare} f) : sProp 𝕄) ⊢ bigSep Finset.univ Φ from BI.bigSep_mono fun b _ => hm b)
  iexact H

omit [FloatOps F] in
include h in
theorem blocks_in {Φ : B → sProp 𝕄} (f₀ : Buf (Elt F) ℓ) (hΦ : ∀ b, Φ b ⊢ iprop(∃ f : Buf (Elt F) ℓ, ℓ ↦[I b]{fullShare} f)) :
    bigSep Finset.univ Φ ⊢ (iprop(∃ f : Buf (Elt F) ℓ, ℓ ↦{fullShare} f) : sProp 𝕄) :=
  (BI.bigSep_mono fun b _ => hΦ b).trans (Ring.pointsTo_blocks_join_exists I h.1 h.2 f₀)

omit [FloatOps F] in
include h in
theorem blocks_at {Φ : B → sProp 𝕄} (f : Buf (Elt F) ℓ) (hΦ : ∀ b, Φ b = iprop(ℓ ↦[I b]{fullShare} f)) :
    (iprop(ℓ ↦{fullShare} f) : sProp 𝕄) = bigSep Finset.univ Φ := by
  rw [Ring.pointsTo_blocks I h.1 h.2 f]
  exact bigSep_congr fun b _ => (hΦ b).symm

end Blocks

/-! ## The scratch buffers -/

section Dev
variable (c : Dev nD)

omit [FloatOps F] in
theorem any_split {sp : Space} {s : Shape} {e : EltTy} (M : Memref sig .tc sp s e) :
    (iprop(∃ f : Buf (Elt F) (M.view.loc (c : Thread nD τ)), M.view.loc (c : Thread nD τ) ↦[M.view.set]{fullShare} f) : sProp 𝕄) ⊢ anyM c M := by
  unfold anyM
  iintro ⟨%f, H⟩
  iexists (M.view.read (Elt F) f)
  iapply (owns_intro (c : Thread nD τ) M fullShare f); iexact H
omit [FloatOps F] in
theorem any_join {sp : Space} {s : Shape} {e : EltTy} (M : Memref sig .tc sp s e) :
    anyM c M ⊢ (iprop(∃ f : Buf (Elt F) (M.view.loc (c : Thread nD τ)), M.view.loc (c : Thread nD τ) ↦[M.view.set]{fullShare} f) : sProp 𝕄) := by
  unfold anyM owns
  iintro ⟨%X, %f, -, H⟩
  iexists f; iexact H

abbrev whole (b : Ref sig .tc) : sProp 𝕄 := iprop(∃ f : Buf (Elt F) ((c : Thread nD τ).loc b), ((c : Thread nD τ).loc b) ↦{fullShare} f)

omit [FloatOps F] in
theorem xin_out : (whole c cc0_scratch0 : sProp 𝕄) ⊢ bigSep Finset.univ fun i => anyM c (xinS i) :=
  blocks_out (ℓ := (c : Thread nD τ).loc cc0_scratch0) (I := fun i => (xinS i).view.set) (slots_cover mem_xinS) fun i => any_split c (xinS i)
theorem xin_in : (bigSep Finset.univ fun i => anyM c (xinS i)) ⊢ (whole c cc0_scratch0 : sProp 𝕄) :=
  blocks_in (ℓ := (c : Thread nD τ).loc cc0_scratch0) (I := fun i => (xinS i).view.set) (slots_cover mem_xinS) (fun _ => Classical.arbitrary _) fun i => any_join c (xinS i)

omit [FloatOps F] in
theorem stg_out : (whole c cc0_scratch1 : sProp 𝕄) ⊢ bigSep Finset.univ fun i => anyM c (stgS i) :=
  blocks_out (ℓ := (c : Thread nD τ).loc cc0_scratch1) (I := fun i => (stgS i).view.set) (slots_cover mem_stgS) fun i => any_split c (stgS i)
theorem stg_in : (bigSep Finset.univ fun i => anyM c (stgS i)) ⊢ (whole c cc0_scratch1 : sProp 𝕄) :=
  blocks_in (ℓ := (c : Thread nD τ).loc cc0_scratch1) (I := fun i => (stgS i).view.set) (slots_cover mem_stgS) (fun _ => Classical.arbitrary _) fun i => any_join c (stgS i)
omit [FloatOps F] in
theorem r1_out : (whole c cc0_scratch2 : sProp 𝕄) ⊢ bigSep Finset.univ fun i => anyM c (r1S i) :=
  blocks_out (ℓ := (c : Thread nD τ).loc cc0_scratch2) (I := fun i => (r1S i).view.set) (slots_cover mem_r1S) fun i => any_split c (r1S i)
theorem r1_in : (bigSep Finset.univ fun i => anyM c (r1S i)) ⊢ (whole c cc0_scratch2 : sProp 𝕄) :=
  blocks_in (ℓ := (c : Thread nD τ).loc cc0_scratch2) (I := fun i => (r1S i).view.set) (slots_cover mem_r1S) (fun _ => Classical.arbitrary _) fun i => any_join c (r1S i)
omit [FloatOps F] in
theorem r2_out : (whole c cc0_scratch3 : sProp 𝕄) ⊢ bigSep Finset.univ fun i => anyM c (r2S i) :=
  blocks_out (ℓ := (c : Thread nD τ).loc cc0_scratch3) (I := fun i => (r2S i).view.set) (slots_cover mem_r2S) fun i => any_split c (r2S i)
theorem r2_in : (bigSep Finset.univ fun i => anyM c (r2S i)) ⊢ (whole c cc0_scratch3 : sProp 𝕄) :=
  blocks_in (ℓ := (c : Thread nD τ).loc cc0_scratch3) (I := fun i => (r2S i).view.set) (slots_cover mem_r2S) (fun _ => Classical.arbitrary _) fun i => any_join c (r2S i)

/-! ## The argument -/

variable (m : (ℓ : Loc nD τ sig) → Buf (Elt F) ℓ)

theorem x512_read {lo : ℕ} (h : lo + 512 ≤ 4096) (f : S4096x2048.Idx → Elt F .f32) (j : S512x2048.Idx) :
    (x512 lo h).view.read (Elt F) f j = f (ix2 ⟨lo + (j 0).val, by have := idx2_lt0 j; omega⟩ (j 1)) := by
  unfold x512
  show f _ = _
  refine congrArg f (funext fun d => Fin.ext ?_)
  fin_cases d
  · show lo + 1 * (j 0).val = lo + (j 0).val; omega
  · show 0 + 1 * (j 1).val = (j 1).val; omega
theorem x512_set {lo : ℕ} (h : lo + 512 ≤ 4096) : (x512 lo h).view.set = rset lo 512 :=
  (View.set_slice_whole main_arg0 _).trans (unit_rset (rows_inb h))

theorem x512_arg {lo : ℕ} (h : lo + 512 ≤ 4096) :
    (x512 lo h).view.read (Elt F) (m ((c : Thread nD τ).loc main_arg0)) = xrows m c lo := by
  funext j
  rw [x512_read]
  unfold xrows X
  have hj := idx2_lt0 j
  refine congrArg (m ((c : Thread nD τ).loc main_arg0) : S4096x2048.Idx → Elt F .f32) (funext fun d => Fin.ext ?_)
  fin_cases d
  · show lo + (j 0).val = (lo + (j 0).val) % 4096
    rw [Nat.mod_eq_of_lt (by omega)]
  · rfl

theorem x512_agree {lo : ℕ} (h : lo + 512 ≤ 4096) {f : S4096x2048.Idx → Elt F .f32}
    (hf : (x512 lo h).view.read (Elt F) f = xrows m c lo) (x : S4096x2048.Idx) (hx : x ∈ rset lo 512) :
    f x = (m ((c : Thread nD τ).loc main_arg0) : S4096x2048.Idx → Elt F .f32) x := by
  rw [mem_rset] at hx
  have := congrFun (hf.trans (x512_arg c m h).symm) (ix2 ⟨(x 0).val - lo, by omega⟩ (x 1))
  rw [x512_read, x512_read] at this
  have hx' : (ix2 ⟨lo + ((x 0).val - lo), by omega⟩ (x 1) : S4096x2048.Idx) = x := by
    funext d; refine Fin.ext ?_
    fin_cases d
    · exact Nat.add_sub_cancel' hx.1
    · rfl
  exact (congrArg f hx').symm.trans (this.trans (congrArg _ hx'))

theorem x_split (i : Fin 4) (r : ℕ) :
    ((c : Thread nD τ).loc main_arg0 ↦[rset (bs i r) 512]{fullShare} m ((c : Thread nD τ).loc main_arg0) : sProp 𝕄) ⊢ xOwn m i r c := by
  have e : ((c : Thread nD τ).loc main_arg0 ↦[rset (bs i r) 512]{fullShare} m ((c : Thread nD τ).loc main_arg0) : sProp 𝕄)
      = ((x512 (bs i r) (bs_le i r)).view.loc (c : Thread nD τ) ↦[(x512 (bs i r) (bs_le i r)).view.set]{fullShare} m ((c : Thread nD τ).loc main_arg0) : sProp 𝕄) := by
    rw [x512_set]; rfl
  exact ((Entails.of_eq e).trans (owns_intro (c : Thread nD τ) (x512 (bs i r) (bs_le i r)) fullShare (m ((c : Thread nD τ).loc main_arg0)))).trans
    (Entails.of_eq (congrArg (owns (c : Thread nD τ) (x512 (bs i r) (bs_le i r)) fullShare) (x512_arg c m (bs_le i r))))
theorem x_join (i : Fin 4) (r : ℕ) :
    (xOwn m i r c : sProp 𝕄) ⊢ ((c : Thread nD τ).loc main_arg0 ↦[rset (bs i r) 512]{fullShare} m ((c : Thread nD τ).loc main_arg0) : sProp 𝕄) := by
  unfold xOwn owns
  iintro ⟨%f, %hf, H⟩
  have e : ((x512 (bs i r) (bs_le i r)).view.loc (c : Thread nD τ) ↦[(x512 (bs i r) (bs_le i r)).view.set]{fullShare} f : sProp 𝕄)
      = ((c : Thread nD τ).loc main_arg0 ↦[rset (bs i r) 512]{fullShare} m ((c : Thread nD τ).loc main_arg0) : sProp 𝕄) := by
    rw [x512_set]
    exact pointsTo_congr fun x hx => x512_agree c m (bs_le i r) hf x hx
  ihave H := (Entails.of_eq e) $$ H
  iexact H

theorem bs_cover : (∀ b b' : Fin 4 × Fin 2, b ≠ b' → Disjoint (rset (bs b.1 b.2.val) 512) (rset (bs b'.1 b'.2.val) 512))
    ∧ (Finset.univ.biUnion fun b : Fin 4 × Fin 2 => rset (bs b.1 b.2.val) 512) = Finset.univ :=
  rset_cover (n := 512) (k := 8) (fun b : Fin 4 × Fin 2 => bs b.1 b.2.val) (fun b => ⟨(4 * b.2.val + b.1.val) % 8, Nat.mod_lt _ (by decide)⟩)
    (by decide) (by decide) (fun b => Nat.mul_comm _ _) (by decide)

abbrev argAt : sProp 𝕄 := (c : Thread nD τ).loc main_arg0 ↦{fullShare} m ((c : Thread nD τ).loc main_arg0)

omit [FloatOps F] in
theorem two (Φ : Fin 2 → sProp 𝕄) : bigSep Finset.univ Φ = iprop(Φ 0 ∗ Φ 1) :=
  bigSep_univ_eq_bigSepL [0, 1] (by decide) (by decide) Φ

theorem arg_out : (argAt c m : sProp 𝕄) ⊢ bigSep Finset.univ fun i => iprop(xOwn m i 0 c ∗ xOwn m i 1 c) := by
  refine (Entails.of_eq (Ring.pointsTo_blocks _ bs_cover.1 bs_cover.2 _)).trans ?_
  rw [bigSep_univ_prod]
  refine BI.bigSep_mono fun i _ => ?_
  rw [two]
  exact BI.sep_mono (x_split c m i 0) (x_split c m i 1)
theorem arg_in : (bigSep Finset.univ fun i => iprop(xOwn m i 0 c ∗ xOwn m i 1 c)) ⊢ (argAt c m : sProp 𝕄) := by
  refine BI.Entails.trans ?_ (Entails.of_eq (Ring.pointsTo_blocks _ bs_cover.1 bs_cover.2 _).symm)
  rw [bigSep_univ_prod]
  refine BI.bigSep_mono fun i _ => ?_
  rw [two]
  exact BI.sep_mono (x_join c m i 0) (x_join c m i 1)

/-! ## The result -/

/-- The four pieces of 256 rows of a lane. -/
def piece (i k : Fin 4) : ℕ := (![kp i 0 c, kp i 1 c, ot i 0 c, ot i 1 c] : Fin 4 → ℕ) k

theorem piece_cover : (∀ b b' : Fin 4 × Fin 4, b ≠ b' → Disjoint (rset (piece c b.1 b.2) 256) (rset (piece c b'.1 b'.2) 256))
    ∧ (Finset.univ.biUnion fun b : Fin 4 × Fin 4 => rset (piece c b.1 b.2) 256) = Finset.univ :=
  rset_cover (n := 256) (k := 16) (fun b : Fin 4 × Fin 4 => piece c b.1 b.2) (fun b => ⟨piece c b.1 b.2 / 256 % 16, Nat.mod_lt _ (by decide)⟩)
    (by decide) (by decide) (by revert c; decide) (by revert c; decide)

omit [FloatOps F] in
theorem out_out : (whole c cc0_stg0_0 : sProp 𝕄)
    ⊢ bigSep Finset.univ fun i => iprop(anyRows c (kp i 0 c) 256 ∗ anyRows c (kp i 1 c) 256 ∗ anyRows c (ot i 0 c) 256 ∗ anyRows c (ot i 1 c) 256) := by
  refine (blocks_out (ℓ := (c : Thread nD τ).loc cc0_stg0_0) (piece_cover c) (Φ := fun b => anyRows c (piece c b.1 b.2) 256) fun b => ?_).trans ?_
  · exact BI.Entails.refl _
  rw [bigSep_univ_prod]
  refine BI.bigSep_mono fun i _ => ?_
  rw [four]
  exact BI.Entails.refl _

theorem pieces (i : Fin 4) : (iprop(done m i 0 c ∗ done m i 1 c) : sProp 𝕄)
    ⊢ iprop(Rows c (kp i 0 c) 256 (OO m) ∗ Rows c (kp i 1 c) 256 (OO m) ∗ Rows c (ot i 0 c) 256 (OO m) ∗ Rows c (ot i 1 c) 256 (OO m)) := by
  unfold done
  iintro ⟨⟨H0, H2⟩, H1, H3⟩
  isplitl [H0]; · iexact H0
  isplitl [H1]; · iexact H1
  isplitl [H2] <;> iassumption

theorem out_in : (bigSep Finset.univ fun i => iprop(done m i 0 c ∗ done m i 1 c))
    ⊢ ((c : Thread nD τ).loc cc0_stg0_0 ↦{fullShare} buf (OO m) : sProp 𝕄) := by
  refine BI.Entails.trans ?_ (Entails.of_eq (Ring.pointsTo_blocks _ (piece_cover c).1 (piece_cover c).2 _).symm)
  rw [bigSep_univ_prod]
  refine BI.bigSep_mono fun i _ => ?_
  rw [four]
  exact pieces c m i

end Dev

end Cert.Quad

end
-- ==== Proof.Close.lean ====
/-
The end of a device's body: every cell it owns is closed, and every buffer is put together again.
-/
module

public import proofs.«01_k».proof.Proof.Split

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells by lane -/

/-- The DMA semaphores by what they are for: loads, sends, receipts. -/
abbrev Own : Type := Fin 4 ⊕ (Fin 4 × Fin 4 ⊕ Fin 4 × Fin 4)
def semOf : Own → DmaSem sig
  | .inl i => ldSem i
  | .inr (.inl p) => sdSem p.1 p.2
  | .inr (.inr p) => rvSem p.1 p.2
def cellOf37 : Unit ⊕ Own → Fin 37
  | .inl _ => 0
  | .inr o => semOf o

theorem cellOf37_bij : Function.Bijective cellOf37 := by decide

omit [FloatOps F] in
theorem by_lane (Φ : Fin 37 → sProp 𝕄) : bigSep Finset.univ Φ
    = iprop(Φ 0 ∗ bigSep Finset.univ fun i : Fin 4 => iprop(Φ (ldSem i) ∗ bigSep Finset.univ fun s : Fin 4 => iprop(Φ (sdSem i s) ∗ Φ (rvSem i s)))) := by
  rw [bigSep_univ_equiv (Equiv.ofBijective _ cellOf37_bij) Φ, bigSep_univ_sum, bigSep_univ_sum, bigSep_univ_sum, bigSep_univ_prod, bigSep_univ_prod,
    bigSep_univ_of_subsingleton ()]
  simp only [bigSep_sep']
  rfl

variable (m : (ℓ : Loc nD τ sig) → Buf (Elt F) ℓ) (N : Dev nD × Fin 37 → ℕ) (c : Dev nD)

/-! ## Closing -/

theorem Ow_end : Ow c ![20, 20, 20, 20] = 0 := by
  have h : ∀ p : Fin 4 × Fin 4 × Fin 2, ¬ pending ![20, 20, 20, 20] p := by decide
  unfold Ow owed
  exact Finset.sum_eq_zero fun p _ => if_neg (h p)

theorem close_dma (q : DmaSem sig) (hq : q.val ≠ 0) :
    iprop(recs m N ∗ atPos ER ((c : Thread nD τ), SemLoc.dma q) 2 ∅ 0) ⊢ |={Set.univ}=> (semVal ((c : Thread nD τ), SemLoc.dma q) 0 : sProp 𝕄) := by
  iintro ⟨#HR, Ha⟩
  imod (Rounds.cell_close ER (Rd m) (Set.mem_univ (N (c, q))) (fun h => h) (R := 2) (duties_late m c (.dma q) 2 (le_refl 2))) $$ [Ha] with Hz
  · isplitr; · iapply (inv_dma m N c q hq); iexact HR
    iexact Ha
  imodintro
  iexact Hz
theorem close_bar :
    iprop(recs m N ∗ atPos ER (barCell c) 1 ∅ 0) ⊢ |={Set.univ}=> (semVal (barCell c) 0 : sProp 𝕄) := by
  iintro ⟨#HR, Ha⟩
  imod (Rounds.cell_close ER (Rd m) (Set.mem_univ (N (c, 0))) (fun h => h) (R := 1) (duties_late_bar m c)) $$ [Ha] with Hz
  · isplitr; · iapply (inv_bar m N c); iexact HR
    iexact Ha
  imodintro
  iexact Hz

/-- The cells of a lane at round `r`, and closed. -/
def laneAt (r : ℕ) (i : Fin 4) : sProp 𝕄 :=
  iprop(atPos ER (ldCell i c) r ∅ 0 ∗ bigSep Finset.univ fun s => iprop(atPos ER (sdCell i s c) r ∅ 0 ∗ atPos ER (rvCell i s c) r ∅ 0))
def laneZero (i : Fin 4) : sProp 𝕄 :=
  iprop(semVal (ldCell i c) 0 ∗ bigSep Finset.univ fun s => iprop(semVal (sdCell i s c) 0 ∗ semVal (rvCell i s c) 0))

theorem close_step (i s : Fin 4) : iprop(recs m N ∗ atPos ER (sdCell i s c) 2 ∅ 0 ∗ atPos ER (rvCell i s c) 2 ∅ 0)
    ⊢ |={Set.univ}=> (iprop(semVal (sdCell i s c) 0 ∗ semVal (rvCell i s c) 0) : sProp 𝕄) := by
  iintro ⟨#HR, Ha, Hb⟩
  imod (close_dma m N c (sdSem i s) (sdSem_ne i s)) $$ [Ha] with Hz
  · isplitr; · iexact HR
    iexact Ha
  imod (close_dma m N c (rvSem i s) (rvSem_ne i s)) $$ [Hb] with Hy
  · isplitr; · iexact HR
    iexact Hb
  imodintro
  isplitl [Hz] <;> iassumption

theorem close_lane (i : Fin 4) : iprop(recs m N ∗ laneAt c 2 i) ⊢ |={Set.univ}=> (laneZero c i : sProp 𝕄) := by
  unfold laneAt laneZero
  iintro ⟨#HR, Ha, Hs⟩
  imod (close_dma m N c (ldSem i) (ldSem_ne i)) $$ [Ha] with Hz
  · isplitr; · iexact HR
    iexact Ha
  ihave Hs := (with_each (R := recs m N) (close_step m N c i)) $$ [Hs]
  · isplitr; · iexact HR
    iexact Hs
  imod (bigSep_fupd _ _) $$ Hs with Hs
  imodintro
  isplitl [Hz] <;> iassumption

/-- The buffers of a lane at the end. -/
def laneEnd (i : Fin 4) : sProp 𝕄 :=
  iprop(anyM c (xinS i) ∗ anyM c (stgS i) ∗ anyM c (r1S i) ∗ anyM c (r2S i) ∗ (xOwn m i 0 c ∗ xOwn m i 1 c) ∗ (done m i 0 c ∗ done m i 1 c))

theorem lane_end (i : Fin 4) : iprop(E0 m i 2 c ∗ there m i 1 c) ⊢ (iprop(laneEnd m c i ∗ laneAt c 2 i) : sProp 𝕄) := by
  unfold E0 there chunk laneEnd laneAt pos
  rw [show (Keep1 i 2 c : sProp 𝕄) = anyM c (r1S i) from rfl, show (Keep2 i 2 c : sProp 𝕄) = anyM c (r2S i) from rfl,
    show (past m i 2 c : sProp 𝕄) = iprop(done m i 0 c ∗ done m i 1 c) from rfl, show (other m i 1 c : sProp 𝕄) = xOwn m i 0 c from rfl, four]
  iintro ⟨⟨Hs, -, -, H1, H2, ⟨A0, -, B0, -⟩, ⟨A1, -, B1, -⟩, ⟨A2, -, B2, -⟩, ⟨A3, -, B3, -⟩, -, HD⟩, HX, Hx1, Ha, -, Hx0⟩
  isplitl [Hs H1 H2 HD HX Hx1 Hx0]
  · isplitl [HX]; · iapply (anyM_intro c (xinS i) _); iexact HX
    isplitl [Hs]; · iexact Hs
    isplitl [H1]; · iexact H1
    isplitl [H2]; · iexact H2
    isplitl [Hx1 Hx0]; · isplitl [Hx0] <;> iassumption
    iexact HD
  isplitl [Ha]; · iexact Ha
  isplitl [A0 B0]; · isplitl [A0] <;> iassumption
  isplitl [A1 B1]; · isplitl [A1] <;> iassumption
  isplitl [A2 B2]; · isplitl [A2] <;> iassumption
  isplitl [A3] <;> iassumption

/-- What a device holds once its body is over, the result apart. -/
def Rest : sProp 𝕄 :=
  iprop(argAt c m ∗ (whole c cc0_scratch0 ∗ whole c cc0_scratch1 ∗ whole c cc0_scratch2 ∗ whole c cc0_scratch3)
    ∗ bigSep Finset.univ fun k => semVal (kcell (c, k)) 0)

theorem gather : (bigSep Finset.univ fun i => laneEnd m c i)
    ⊢ (iprop((argAt c m ∗ (whole c cc0_scratch0 ∗ whole c cc0_scratch1 ∗ whole c cc0_scratch2 ∗ whole c cc0_scratch3))
      ∗ ((c : Thread nD τ).loc cc0_stg0_0 ↦{fullShare} buf (OO m))) : sProp 𝕄) := by
  unfold laneEnd
  rw [bigSep_sep', bigSep_sep', bigSep_sep', bigSep_sep', bigSep_sep']
  iintro ⟨H0, H1, H2, H3, HX, HD⟩
  isplitr [HD]
  · isplitl [HX]; · iapply (arg_in c m); iexact HX
    isplitl [H0]; · iapply (xin_in c); iexact H0
    isplitl [H1]; · iapply (stg_in c); iexact H1
    isplitl [H2]; · iapply (r1_in c); iexact H2
    iapply (r2_in c); iexact H3
  · iapply (out_in c m); iexact HD

theorem all_zero : iprop(semVal (barCell c) 0 ∗ bigSep Finset.univ fun i => laneZero c i) ⊢ (bigSep Finset.univ fun k => semVal (kcell (c, k)) 0 : sProp 𝕄) := by
  rw [by_lane]
  exact BI.Entails.refl _

theorem finish : iprop(St m N c ![20, 20, 20, 20] ![4, 4, 4, 4] ∗ atPos ER (barCell c) (0 + 1) ∅ 0)
    ⊢ |={Set.univ}=> (iprop(Rest m c ∗ (∃ W, owes (c : Thread nD τ) 0 W) ∗ ((c : Thread nD τ).loc cc0_stg0_0 ↦{fullShare} buf (OO m))) : sProp 𝕄) := by
  have e0 : (bigSep Finset.univ fun i => Ex m i ((![20, 20, 20, 20] : Fin 4 → ℕ) i) c : sProp 𝕄) = bigSep Finset.univ fun i => E0 m i 2 c :=
    bigSep_congr fun i _ => by fin_cases i <;> rfl
  have e1 : (bigSep Finset.univ fun i => Sl m i ((![4, 4, 4, 4] : Fin 4 → ℕ) i) c : sProp 𝕄) = bigSep Finset.univ fun i => there m i 1 c :=
    bigSep_congr fun i _ => by fin_cases i <;> rfl
  unfold St Owes Rest
  rw [e0, e1, Ow_end]
  iintro ⟨⟨#HR, HO, HE, HT⟩, Hb⟩
  imod (close_bar m N c) $$ [Hb] with Hz
  · isplitr; · iexact HR
    iexact Hb
  have hm : (bigSep Finset.univ fun i => iprop(E0 m i 2 c ∗ there m i 1 c) : sProp 𝕄) ⊢ bigSep Finset.univ fun i => iprop(laneEnd m c i ∗ laneAt c 2 i) :=
    BI.bigSep_mono fun i _ => lane_end m c i
  rw [bigSep_sep', bigSep_sep'] at hm
  ihave HL := hm $$ [HE HT]
  · isplitl [HE] <;> iassumption
  icases HL with ⟨HL, HA⟩
  ihave HA := (with_each (R := recs m N) (close_lane m N c)) $$ [HA]
  · isplitr; · iexact HR
    iexact HA
  imod (bigSep_fupd _ _) $$ HA with HA
  imodintro
  ihave HL := (gather m c) $$ HL
  icases HL with ⟨⟨HX, HS⟩, HD⟩
  isplitl [HX HS HA Hz]
  · isplitl [HX]; · iexact HX
    isplitl [HS]; · iexact HS
    iapply (all_zero c)
    isplitl [Hz] <;> iassumption
  isplitl [HO] <;> iassumption

theorem Runs_end {p : Prog (TpuEff nD τ sig (Elt F) Λ₀ Proc.tc) PUnit} {P : sProp 𝕄} {Q R : PUnit → sProp 𝕄} (h : P ⊢ Runs c p Q)
    (hq : ∀ a, Q a ⊢ |={Set.univ}=> R a) : P ⊢ Runs c p R :=
  (h.trans (wp_mono _ _ _ hq)).trans (wp_fupd _ _ _ _ _)

/-- The body, from what a device holds at the start to what it holds at the end. -/
theorem body_run (hA : xA.IsWhole) (hO : oM.IsWhole) (hX : xinB.IsWhole) (hS : stgB.IsWhole) (h1 : r1B.IsWhole) (h2 : r2B.IsWhole) :
    (Begin m N c : sProp 𝕄) ⊢ Runs c (cc0_body xA hA oM hO xinB hX stgB hS r1B h1 r2B h2 cc0_scratch4 cc0_scratch5 cc0_scratch6)
      (fun _ => iprop(Rest m c ∗ (∃ W, owes (c : Thread nD τ) 0 W) ∗ ((c : Thread nD τ).loc cc0_stg0_0 ↦{fullShare} buf (OO m)))) :=
  Runs_end c (run_body m N c hA hO hX hS h1 h2) fun _ => finish m N c

end Cert.Quad

end
-- ==== Proof.Start.lean ====
/-
What a device is given at its launch, sorted by lane: the body's starting point.
-/
module

public import proofs.«01_k».proof.Proof.Close

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (N : Dev nD × Fin 37 → ℕ) (c : Dev nD)

/-! ## The tokens and the credits, by lane -/

/-- What pays for a lane's loads and steps. -/
def laneToks (i : Fin 4) : sProp 𝕄 :=
  iprop((dutyTok ER (ldCell i c) 0 false ∗ dutyTok ER (ldCell i c) 1 false) ∗ bigSep Finset.univ fun s => iprop(toks i s 0 c ∗ toks i s 1 c))
/-- The credits of what a lane receives. -/
def laneCreds (i : Fin 4) : sProp 𝕄 :=
  bigSep Finset.univ fun s => iprop(cred (tallyAt (rvCell i s c) 0 (NS s)) ∗ cred (tallyAt (rvCell i s c) 1 (NS s)))
/-- The rows of the result a lane works on. -/
def laneRows (i : Fin 4) : sProp 𝕄 :=
  iprop(anyRows c (kp i 0 c) 256 ∗ anyRows c (kp i 1 c) 256 ∗ anyRows c (ot i 0 c) 256 ∗ anyRows c (ot i 1 c) 256)
/-- The two chunks of the argument it works on. -/
def laneX (i : Fin 4) : sProp 𝕄 := iprop(xOwn m i 0 c ∗ xOwn m i 1 c)
/-- All a lane is given. -/
def laneAll (i : Fin 4) : sProp 𝕄 :=
  iprop(laneAt c 0 i ∗ laneToks c i ∗ laneCreds c i ∗ laneX m c i ∗ laneRows c i
    ∗ anyM c (xinS i) ∗ anyM c (stgS i) ∗ anyM c (r1S i) ∗ anyM c (r2S i))

theorem pos_intro (i s : Fin 4) : iprop(recs m N ∗ atPos ER (sdCell i s c) 0 ∅ 0 ∗ atPos ER (rvCell i s c) 0 ∅ 0) ⊢ (pos i s 0 c : sProp 𝕄) := by
  unfold pos
  iintro ⟨#HR, Ha, Hb⟩
  isplitl [Ha]; · iexact Ha
  isplitr; · iapply (reached_dma m N c (sdSem i s) (sdSem_ne i s)); iexact HR
  isplitl [Hb]; · iexact Hb
  iapply (reached_dma m N c (rvSem i s) (rvSem_ne i s)); iexact HR

omit [FloatOps F] in
theorem kits (i : Fin 4) : iprop((bigSep Finset.univ fun s => iprop(toks i s 0 c ∗ toks i s 1 c)) ∗ laneCreds c i)
    ⊢ (iprop((kit i 0 0 c ∗ kit i 1 0 c ∗ kit i 2 0 c ∗ kit i 3 0 c) ∗ kit i 0 1 c ∗ kit i 1 1 c ∗ kit i 2 1 c ∗ kit i 3 1 c) : sProp 𝕄) := by
  unfold laneCreds kit
  rw [four, four]
  iintro ⟨⟨⟨A0, B0⟩, ⟨A1, B1⟩, ⟨A2, B2⟩, A3, B3⟩, ⟨C0, D0⟩, ⟨C1, D1⟩, ⟨C2, D2⟩, C3, D3⟩
  isplitl [A0 A1 A2 A3 C0 C1 C2 C3]
  · isplitl [A0 C0]; · isplitl [A0] <;> iassumption
    isplitl [A1 C1]; · isplitl [A1] <;> iassumption
    isplitl [A2 C2]; · isplitl [A2] <;> iassumption
    isplitl [A3] <;> iassumption
  · isplitl [B0 D0]; · isplitl [B0] <;> iassumption
    isplitl [B1 D1]; · isplitl [B1] <;> iassumption
    isplitl [B2 D2]; · isplitl [B2] <;> iassumption
    isplitl [B3] <;> iassumption

theorem lane_start (i : Fin 4) : iprop(recs m N ∗ laneAll m c i) ⊢ (iprop(laneOut c i ∗ laneMid c i ∗ idle m i 0 c) : sProp 𝕄) := by
  unfold laneAll laneAt laneToks laneX laneRows laneMid idle
  rw [show (other m i 0 c : sProp 𝕄) = iprop(xOwn m i 1 c ∗ dutyTok ER (ldCell i c) 1 false) from rfl]
  iintro ⟨#HR, ⟨Ha, HP⟩, ⟨⟨Ht0, Ht1⟩, HT⟩, HC, ⟨Hx0, Hx1⟩, ⟨K0, K1, T0, T1⟩, HX, HS, H1, H2⟩
  ihave HP := (with_each (R := recs m N) (pos_intro m N c i)) $$ [HP]
  · isplitr; · iexact HR
    iexact HP
  ihave HP := (Entails.of_eq (four fun s => pos i s 0 c)) $$ HP
  ihave HK := (kits c i) $$ [HT HC]
  · isplitl [HT] <;> iassumption
  isplitl [H1 H2 T0 T1]
  · iapply (lane_out c i)
    isplitl [H1]; · iexact H1
    isplitl [H2]; · iexact H2
    isplitl [T0] <;> iassumption
  isplitl [HS K0 K1 HP HK]
  · isplitl [HS]; · iexact HS
    isplitl [K0 K1]; · isplitl [K0] <;> iassumption
    isplitl [HP] <;> iassumption
  · isplitl [HX]; · iexact HX
    isplitl [Hx0]; · iexact Hx0
    isplitl [Ht0]; · iexact Ht0
    isplitl [Ha]; · iexact Ha
    isplitr; · iapply (reached_dma m N c (ldSem i) (ldSem_ne i)); iexact HR
    isplitl [Hx1] <;> iassumption

/-- The positions of a device's cells, and what pays for everything it pays. -/
def linear : sProp 𝕄 :=
  iprop((bigSep Finset.univ fun k : Fin 37 => atPos ER (kcell (c, k)) 0 ∅ 0)
    ∗ (dutyTok ER (barCell (xn c)) 0 true ∗ dutyTok ER (barCell (yn c)) 0 false) ∗ bigSep Finset.univ fun i => laneToks c i)
/-- The credits a device is given. -/
def credits : sProp 𝕄 := iprop(cred (tallyAt (barCell c) 0 2) ∗ bigSep Finset.univ fun i => laneCreds c i)

omit [FloatOps F] in
theorem positions : (bigSep Finset.univ fun k : Fin 37 => atPos ER (kcell (c, k)) 0 ∅ 0 : sProp 𝕄)
    ⊢ iprop(atPos ER (barCell c) 0 ∅ 0 ∗ bigSep Finset.univ fun i => laneAt c 0 i) := by
  rw [by_lane]
  exact BI.Entails.refl _

/-- The scratch buffers, whole. -/
def scratches : sProp 𝕄 := iprop(whole c cc0_scratch0 ∗ whole c cc0_scratch1 ∗ whole c cc0_scratch2 ∗ whole c cc0_scratch3)

theorem lanes_all : iprop((bigSep Finset.univ fun i => laneAt c 0 i) ∗ (bigSep Finset.univ fun i => laneToks c i) ∗ (bigSep Finset.univ fun i => laneCreds c i)
      ∗ argAt c m ∗ whole c cc0_stg0_0 ∗ scratches c)
    ⊢ (bigSep Finset.univ fun i => laneAll m c i : sProp 𝕄) := by
  unfold laneAll scratches
  rw [bigSep_sep', bigSep_sep', bigSep_sep', bigSep_sep', bigSep_sep', bigSep_sep', bigSep_sep', bigSep_sep']
  iintro ⟨HP, HT, HC, HA, HO, H0, H1, H2, H3⟩
  isplitl [HP]; · iexact HP
  isplitl [HT]; · iexact HT
  isplitl [HC]; · iexact HC
  isplitl [HA]; · iapply (arg_out c m); iexact HA
  isplitl [HO]; · iapply (out_out c); iexact HO
  isplitl [H0]; · iapply (xin_out c); iexact H0
  isplitl [H1]; · iapply (stg_out c); iexact H1
  isplitl [H2]; · iapply (r1_out c); iexact H2
  iapply (r2_out c); iexact H3

theorem begin_intro : iprop(recs m N ∗ linear c ∗ credits c ∗ argAt c m ∗ whole c cc0_stg0_0 ∗ scratches c ∗ (∃ W, owes (c : Thread nD τ) (O₀ c) W))
    ⊢ (Begin m N c : sProp 𝕄) := by
  unfold linear credits Begin
  iintro ⟨#HR, ⟨HP, HTb, HT⟩, ⟨HCb, HC⟩, HA, HO, HS, HW⟩
  ihave HP := (positions c) $$ HP
  icases HP with ⟨Hb, HP⟩
  ihave HL := (lanes_all m c) $$ [HP HT HC HA HO HS]
  · isplitl [HP]; · iexact HP
    isplitl [HT]; · iexact HT
    isplitl [HC]; · iexact HC
    isplitl [HA]; · iexact HA
    isplitl [HO] <;> iassumption
  ihave HL := (with_each (R := recs m N) (lane_start m N c)) $$ [HL]
  · isplitr; · iexact HR
    iexact HL
  have e : (bigSep Finset.univ fun i => iprop(laneOut c i ∗ laneMid c i ∗ idle m i 0 c) : sProp 𝕄)
      = iprop((bigSep Finset.univ fun i => laneOut c i) ∗ (bigSep Finset.univ fun i => laneMid c i) ∗ bigSep Finset.univ fun i => idle m i 0 c) := by
    rw [bigSep_sep', bigSep_sep']
  ihave HL := (Entails.of_eq e) $$ HL
  isplitr; · iexact HR
  isplitl [HW]; · iexact HW
  isplitl [HCb Hb]; · isplitl [HCb] <;> iassumption
  isplitl [HTb]; · iexact HTb
  iexact HL

end Cert.Quad

end
-- ==== Proof.Cells.lean ====
/-
The launch's ghost resources: every cell's invariant, the tokens dealt to the devices that pay, and the credits of what each
device receives.
-/
module

public import proofs.«01_k».proof.Proof.Start
public import Idealize.ShloMosaic.Lib.Pipeline.Launch
public import Idealize.ShloMosaic.Lib.Pipeline.Kit

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (N : Dev nD × Fin 37 → ℕ) (c : Dev nD)

/-! ## The cells and their tokens -/

theorem csem_injective : Function.Injective csem := by decide
theorem kcell_injective : Function.Injective (kcell : Dev nD × Fin 37 → GSem nD τ sig) := by
  rintro ⟨c, k⟩ ⟨c', k'⟩ h
  have h1 : c = c' := congrArg (fun g : GSem nD τ sig => g.1.1) h
  have h2 : k = k' := csem_injective (congrArg Prod.snd h)
  rw [h1, h2]
def quadCells : Finset (GSem nD τ sig) := Finset.univ.map ⟨kcell, kcell_injective⟩

/-- A device's own cells' tokens: the barrier's two of its one round, the other cells' one of each of two rounds. -/
def tokIn (kr : Fin 37 × Fin 2) : SemLoc sig × ℕ × Bool :=
  if kr.1 = 0 then (csem kr.1, 0, decide (kr.2 = 1)) else (csem kr.1, kr.2.val, false)
theorem tokIn_injective : Function.Injective tokIn := by decide +kernel
def tokOf (x : Dev nD × Fin 37 × Fin 2) : GSem nD τ sig × ℕ × Bool := ((((x.1 : Dev nD) : Thread nD τ), (tokIn x.2).1), (tokIn x.2).2)
theorem tokOf_injective : Function.Injective tokOf := by
  rintro ⟨c, k⟩ ⟨c', k'⟩ h
  have h1 : c = c' := congrArg (fun x : GSem nD τ sig × ℕ × Bool => x.1.1.1) h
  have h2 : k = k' := tokIn_injective (congrArg (fun x : GSem nD τ sig × ℕ × Bool => (x.1.2, x.2)) h)
  rw [h1, h2]
def quadToks : Finset (GSem nD τ sig × ℕ × Bool) := Finset.univ.map ⟨tokOf, tokOf_injective⟩

abbrev tokAt (x : GSem nD τ sig × ℕ × Bool) : sProp 𝕄 := dutyTok ER x.1 x.2.1 x.2.2

/-- The tokens of a cell used in two rounds. -/
def rounds2 (g : GSem nD τ sig) : sProp 𝕄 := iprop(dutyTok ER g 0 false ∗ dutyTok ER g 1 false)
/-- The tokens of a device's own cells, by lane. -/
def ownToks : sProp 𝕄 :=
  iprop((dutyTok ER (barCell c) 0 false ∗ dutyTok ER (barCell c) 0 true)
    ∗ bigSep Finset.univ fun i => iprop(rounds2 (ldCell i c) ∗ bigSep Finset.univ fun s => iprop(rounds2 (sdCell i s c) ∗ rounds2 (rvCell i s c))))

omit [FloatOps F] in
theorem tok_dma (q : DmaSem sig) (hq : q.val ≠ 0) :
    (bigSep Finset.univ fun r : Fin 2 => tokAt (tokOf (c, q, r)) : sProp 𝕄) = rounds2 ((c : Thread nD τ), SemLoc.dma q) := by
  have h : ∀ r : Fin 2, tokOf (c, q, r) = (((c : Thread nD τ), SemLoc.dma q), r.val, false) := fun r => by
    unfold tokOf tokIn
    rw [if_neg (fun h => hq (congrArg Fin.val h)), csem_dma q hq]
  rw [two, h, h]
  rfl

omit [FloatOps F] in
theorem toks_lanes : (bigSep Finset.univ fun kr : Fin 37 × Fin 2 => tokAt (tokOf (c, kr)) : sProp 𝕄) = ownToks c := by
  rw [bigSep_univ_prod, by_lane]
  have e0 : (bigSep Finset.univ fun r : Fin 2 => tokAt (tokOf (c, (0 : Fin 37), r)) : sProp 𝕄)
      = iprop(dutyTok ER (barCell c) 0 false ∗ dutyTok ER (barCell c) 0 true) := by rw [two]; rfl
  have e1 : ∀ i : Fin 4, (iprop((bigSep Finset.univ fun r : Fin 2 => tokAt (tokOf (c, ldSem i, r)))
        ∗ bigSep Finset.univ fun s : Fin 4 => iprop((bigSep Finset.univ fun r : Fin 2 => tokAt (tokOf (c, sdSem i s, r)))
          ∗ bigSep Finset.univ fun r : Fin 2 => tokAt (tokOf (c, rvSem i s, r)))) : sProp 𝕄)
      = iprop(rounds2 (ldCell i c) ∗ bigSep Finset.univ fun s => iprop(rounds2 (sdCell i s c) ∗ rounds2 (rvCell i s c))) := fun i => by
    rw [tok_dma c (ldSem i) (ldSem_ne i)]
    congr 2
    funext s
    rw [tok_dma c (sdSem i s) (sdSem_ne i s), tok_dma c (rvSem i s) (rvSem_ne i s)]
  unfold ownToks
  rw [e0]
  congr 2
  funext i
  exact e1 i

/-! ## Dealt to the devices that pay -/

def xE : Dev nD ≃ Dev nD := ⟨xn, xn, xn_xn, xn_xn⟩
def yE : Dev nD ≃ Dev nD := ⟨yn, yn, yn_yn, yn_yn⟩
theorem tgt_tgt (i s : Fin 4) (c : Dev nD) : tgt i s (tgt i s c) = c := by revert i s c; decide
def tE (i s : Fin 4) : Dev nD ≃ Dev nD := ⟨tgt i s, tgt i s, tgt_tgt i s, tgt_tgt i s⟩

omit [FloatOps F] in
theorem around (Φ : Fin 4 → Fin 4 → Dev nD → sProp 𝕄) :
    (bigSep Finset.univ fun c : Dev nD => bigSep Finset.univ fun i : Fin 4 => bigSep Finset.univ fun s : Fin 4 => Φ i s c)
      = bigSep Finset.univ fun c : Dev nD => bigSep Finset.univ fun i : Fin 4 => bigSep Finset.univ fun s : Fin 4 => Φ i s (tgt i s c) := by
  have h (Ψ : Fin 4 → Fin 4 → Dev nD → sProp 𝕄) :
      (bigSep Finset.univ fun c : Dev nD => bigSep Finset.univ fun i : Fin 4 => bigSep Finset.univ fun s : Fin 4 => Ψ i s c)
        = bigSep Finset.univ fun i : Fin 4 => bigSep Finset.univ fun s : Fin 4 => bigSep Finset.univ fun c : Dev nD => Ψ i s c := by
    rw [bigSep_univ_comm]
    exact bigSep_congr fun i _ => bigSep_univ_comm _
  rw [h Φ, h fun i s c => Φ i s (tgt i s c)]
  exact bigSep_congr fun i _ => bigSep_congr fun s _ => bigSep_univ_equiv (tE i s) (Φ i s)

/-- What pays for everything a device pays, by lane. -/
def payToks : sProp 𝕄 :=
  iprop((dutyTok ER (barCell (xn c)) 0 true ∗ dutyTok ER (barCell (yn c)) 0 false) ∗ bigSep Finset.univ fun i => laneToks c i)

omit [FloatOps F] in
theorem lane_toks (i : Fin 4) : iprop(rounds2 (ldCell i c) ∗ (bigSep Finset.univ fun s => rounds2 (sdCell i s c)) ∗ bigSep Finset.univ fun s => rounds2 (rvCell i s (tgt i s c)))
    ⊢ (laneToks c i : sProp 𝕄) := by
  unfold laneToks rounds2 toks
  rw [four, four, four]
  iintro ⟨HL, ⟨⟨A0, B0⟩, ⟨A1, B1⟩, ⟨A2, B2⟩, A3, B3⟩, ⟨C0, D0⟩, ⟨C1, D1⟩, ⟨C2, D2⟩, C3, D3⟩
  isplitl [HL]; · iexact HL
  isplitl [A0 B0 C0 D0]; · isplitl [A0 C0]; (isplitl [A0] <;> iassumption); isplitl [B0] <;> iassumption
  isplitl [A1 B1 C1 D1]; · isplitl [A1 C1]; (isplitl [A1] <;> iassumption); isplitl [B1] <;> iassumption
  isplitl [A2 B2 C2 D2]; · isplitl [A2 C2]; (isplitl [A2] <;> iassumption); isplitl [B2] <;> iassumption
  isplitl [A3 C3]; (isplitl [A3] <;> iassumption); isplitl [B3] <;> iassumption

omit [FloatOps F] in
theorem swap_left {P Q R : sProp 𝕄} : iprop((P ∗ Q) ∗ R) ⊢ iprop((Q ∗ P) ∗ R) := by
  iintro ⟨⟨H1, H2⟩, H3⟩
  isplitr [H3]
  · isplitl [H2] <;> iassumption
  iexact H3

omit [FloatOps F] in
theorem toks_around : (bigSep Finset.univ fun c : Dev nD => ownToks c : sProp 𝕄) ⊢ bigSep Finset.univ fun c : Dev nD => payToks c := by
  have e0 : (bigSep Finset.univ fun c : Dev nD => ownToks c : sProp 𝕄)
      = iprop(((bigSep Finset.univ fun c : Dev nD => dutyTok ER (barCell c) 0 false) ∗ bigSep Finset.univ fun c : Dev nD => dutyTok ER (barCell c) 0 true)
        ∗ (bigSep Finset.univ fun c : Dev nD => bigSep Finset.univ fun i : Fin 4 => rounds2 (ldCell i c))
        ∗ (bigSep Finset.univ fun c : Dev nD => bigSep Finset.univ fun i : Fin 4 => bigSep Finset.univ fun s : Fin 4 => rounds2 (sdCell i s c))
        ∗ bigSep Finset.univ fun c : Dev nD => bigSep Finset.univ fun i : Fin 4 => bigSep Finset.univ fun s : Fin 4 => rounds2 (rvCell i s c)) := by
    unfold ownToks
    simp only [bigSep_sep']
  have e1 : (bigSep Finset.univ fun c : Dev nD => iprop((dutyTok ER (barCell (xn c)) 0 true ∗ dutyTok ER (barCell (yn c)) 0 false)
        ∗ bigSep Finset.univ fun i : Fin 4 => iprop(rounds2 (ldCell i c) ∗ (bigSep Finset.univ fun s => rounds2 (sdCell i s c)) ∗ bigSep Finset.univ fun s => rounds2 (rvCell i s (tgt i s c)))) : sProp 𝕄)
      = iprop(((bigSep Finset.univ fun c : Dev nD => dutyTok ER (barCell (xn c)) 0 true) ∗ bigSep Finset.univ fun c : Dev nD => dutyTok ER (barCell (yn c)) 0 false)
        ∗ (bigSep Finset.univ fun c : Dev nD => bigSep Finset.univ fun i : Fin 4 => rounds2 (ldCell i c))
        ∗ (bigSep Finset.univ fun c : Dev nD => bigSep Finset.univ fun i : Fin 4 => bigSep Finset.univ fun s : Fin 4 => rounds2 (sdCell i s c))
        ∗ bigSep Finset.univ fun c : Dev nD => bigSep Finset.univ fun i : Fin 4 => bigSep Finset.univ fun s : Fin 4 => rounds2 (rvCell i s (tgt i s c))) := by
    simp only [bigSep_sep']
  have e2 : ∀ c : Dev nD, (iprop((dutyTok ER (barCell (xn c)) 0 true ∗ dutyTok ER (barCell (yn c)) 0 false)
        ∗ bigSep Finset.univ fun i : Fin 4 => iprop(rounds2 (ldCell i c) ∗ (bigSep Finset.univ fun s => rounds2 (sdCell i s c)) ∗ bigSep Finset.univ fun s => rounds2 (rvCell i s (tgt i s c)))) : sProp 𝕄)
      ⊢ payToks c := fun c => BI.sep_mono (BI.Entails.refl _) (BI.bigSep_mono fun i _ => lane_toks c i)
  refine (Entails.of_eq e0).trans (BI.Entails.trans ?_ ((Entails.of_eq e1.symm).trans (BI.bigSep_mono fun c _ => e2 c)))
  rw [around fun i s c => rounds2 (rvCell i s c), bigSep_univ_equiv xE (fun c : Dev nD => (dutyTok ER (barCell c) 0 true : sProp 𝕄)),
    bigSep_univ_equiv yE (fun c : Dev nD => (dutyTok ER (barCell c) 0 false : sProp 𝕄))]
  exact swap_left

end Cert.Quad

end
-- ==== Proof.Glob.lean ====
/-
The launch's one update for all devices: every cell's invariant is made, and the tokens are dealt.
-/
module

public import proofs.«01_k».proof.Proof.Cells

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

abbrev own37 (o : Own) : SemLoc sig := .dma (semOf o)
theorem ownSemFacts : Pipeline.OwnSemFacts cfg0.spec own37 := by decide

def u₀ : UU :=
  (initOf (Pipeline.cells cfgs cellOf_inj) (Pipeline.launchToks cfgs cellOf_inj), initOf quadCells quadToks)

/-- A device's cells' positions, with the record that they are reached. -/
def starts : sProp 𝕄 := bigSep Finset.univ fun k : Fin 37 => iprop(atPos ER (kcell (c, k)) 0 ∅ 0 ∗ reached ER (kcell (c, k)) 0)

/-- What the launch gives a device. -/
def G : sProp 𝕄 :=
  iprop((bigSep Finset.univ fun k : Fin 37 => roundState ER (Rd m) (kcell (c, k)) 0) ∗ starts c ∗ ownToks c)

theorem fund_quad : BI.own (ER (initOf quadCells quadToks)) ⊢ (|==> bigSep Finset.univ (G m) : sProp 𝕄) := by
  have hX (Φ : GSem nD τ sig → sProp 𝕄) : bigSep quadCells Φ = bigSep Finset.univ fun c : Dev nD => bigSep Finset.univ fun k : Fin 37 => Φ (kcell (c, k)) := by
    unfold quadCells; rw [bigSep_map, bigSep_univ_prod]; rfl
  have hT : bigSep quadToks (fun x => (dutyTok ER x.1 x.2.1 x.2.2 : sProp 𝕄)) = bigSep Finset.univ fun c : Dev nD => ownToks c := by
    unfold quadToks; rw [bigSep_map, bigSep_univ_prod]
    exact bigSep_congr fun c _ => toks_lanes c
  have hG : bigSep Finset.univ (G m) = (iprop((bigSep Finset.univ fun c : Dev nD => bigSep Finset.univ fun k : Fin 37 => roundState ER (Rd m) (kcell (c, k)) 0)
      ∗ ((bigSep Finset.univ fun c : Dev nD => bigSep Finset.univ fun k : Fin 37 => atPos ER (kcell (c, k)) 0 ∅ 0)
        ∗ bigSep Finset.univ fun c : Dev nD => bigSep Finset.univ fun k : Fin 37 => reached ER (kcell (c, k)) 0)
      ∗ bigSep Finset.univ fun c : Dev nD => ownToks c) : sProp 𝕄) := by
    unfold G starts; simp only [bigSep_sep']
  iintro HX
  imod (Rounds.fund ER (Rd m) quadCells quadToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  iapply (Entails.of_eq hG.symm)
  isplitl [Hst']; · iexact Hst'
  isplitl [Hat' Hr']
  · isplitl [Hat'] <;> iassumption
  iexact Htok'

abbrev ownZero : sProp 𝕄 := Pipeline.ownSems0 (Ix := ℕ) (Name := ℕ) (U := UU) (Lvl := ℕ) (Val := Elt F) (τ := τ) own37 c

omit [FloatOps F] in
theorem unscopedSems0_eq : (unscopedSems0 c : sProp 𝕄) = semVal (barCell c) 0 := by
  unfold unscopedSems0; rw [bigSep_eq_bigSepL_of_eq [SemLoc.reg barS] (by decide) (by decide)]; rfl

theorem semOf_ne (o : Own) : (semOf o).val ≠ 0 := by revert o; decide

omit [FloatOps F] in
theorem sems0_eq : (bigSep Finset.univ fun k : Fin 37 => semVal (kcell (c, k)) 0 : sProp 𝕄) = iprop(unscopedSems0 c ∗ ownZero c) := by
  rw [unscopedSems0_eq, bigSep_univ_equiv (Equiv.ofBijective _ cellOf37_bij) (fun k : Fin 37 => (semVal (kcell (c, k)) 0 : sProp 𝕄)), bigSep_univ_sum,
    bigSep_univ_of_subsingleton ()]
  have h : (bigSep Finset.univ fun o : Own => semVal (kcell (c, (Equiv.ofBijective _ cellOf37_bij) (Sum.inr o))) 0 : sProp 𝕄) = ownZero c := by
    unfold ownZero Pipeline.ownSems0
    exact bigSep_congr fun o _ => congrArg (fun s : SemLoc sig => (semVal ((c : Thread nD τ), s) 0 : sProp 𝕄)) (csem_dma (semOf o) (semOf_ne o))
  rw [h]
  rfl

theorem core_alloc : iprop(ownZero c ∗ unscopedSems0 c ∗ G m c)
      ⊢ |={Set.univ}=> (iprop((bigSep Finset.univ fun k : Fin 37 => iprop(∃ κ : ℕ, cellInv ER (Rd m) κ (kcell (c, k)))) ∗ starts c ∗ ownToks c) : sProp 𝕄) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 37 => semVal (kcell (c, k)) 0) ∗ bigSep Finset.univ fun k : Fin 37 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (BI.bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (N : Dev nD × Fin 37 → ℕ) : sProp 𝕄 :=
  iprop((bigSep Finset.univ fun ck : Dev nD × Fin 37 => cellInv ER (Rd m) (N ck) (kcell ck))
    ∗ bigSep Finset.univ fun ck : Dev nD × Fin 37 => reached ER (kcell ck) 0)
instance records_persistent (N : Dev nD × Fin 37 → ℕ) : BI.Persistent (records m N) := by unfold records; infer_instance

/-- What the update makes of what the launch gives. -/
def G' : sProp 𝕄 := iprop(∃ N, records m N ∗ linear c)

theorem keep_intro (N : Dev nD × Fin 37 → ℕ) : iprop(records m N ∗ linear c) ⊢ G' m c := by
  unfold G'
  iintro H
  iexists N
  iexact H

omit [FloatOps F] in
theorem dev_each {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := with_each (F := F) h

theorem regroup :
    (bigSep Finset.univ fun c : Dev nD => iprop((bigSep Finset.univ fun k : Fin 37 => iprop(∃ κ : ℕ, cellInv ER (Rd m) κ (kcell (c, k)))) ∗ starts c ∗ ownToks c) : sProp 𝕄)
      ⊢ bigSep Finset.univ (G' m) := by
  have e : (bigSep Finset.univ fun c : Dev nD => iprop((bigSep Finset.univ fun k : Fin 37 => iprop(∃ κ : ℕ, cellInv ER (Rd m) κ (kcell (c, k)))) ∗ starts c ∗ ownToks c) : sProp 𝕄)
      = iprop((bigSep Finset.univ fun ck : Dev nD × Fin 37 => iprop(∃ κ : ℕ, cellInv ER (Rd m) κ (kcell ck)))
        ∗ ((bigSep Finset.univ fun c : Dev nD => bigSep Finset.univ fun k : Fin 37 => atPos ER (kcell (c, k)) 0 ∅ 0)
          ∗ bigSep Finset.univ fun ck : Dev nD × Fin 37 => reached ER (kcell ck) 0)
        ∗ bigSep Finset.univ fun c : Dev nD => ownToks c) := by
    unfold starts
    rw [bigSep_univ_prod, bigSep_univ_prod]
    simp only [bigSep_sep']
  have e' : (bigSep Finset.univ fun c : Dev nD => linear c : sProp 𝕄)
      = iprop((bigSep Finset.univ fun c : Dev nD => bigSep Finset.univ fun k : Fin 37 => atPos ER (kcell (c, k)) 0 ∅ 0) ∗ bigSep Finset.univ fun c : Dev nD => payToks c) := by
    rw [← bigSep_sep']
    rfl
  refine (Entails.of_eq e).trans ?_
  show (iprop((bigSep Finset.univ fun ck : Dev nD × Fin 37 => iprop(∃ κ : ℕ, cellInv ER (Rd m) κ (kcell ck)))
        ∗ ((bigSep Finset.univ fun c : Dev nD => bigSep Finset.univ fun k : Fin 37 => atPos ER (kcell (c, k)) 0 ∅ 0)
          ∗ bigSep Finset.univ fun ck : Dev nD × Fin 37 => reached ER (kcell ck) 0)
        ∗ bigSep Finset.univ fun c : Dev nD => ownToks c) : sProp 𝕄) ⊢ _
  iintro ⟨HI, ⟨Hat, #HR⟩, Htok⟩
  ihave HK := (BI.bigSep_exists_pi Finset.univ (fun (ck : Dev nD × Fin 37) (κ : ℕ) => (cellInv ER (Rd m) κ (kcell ck) : sProp 𝕄))) $$ HI
  icases HK with ⟨%N, #HI⟩
  ihave Htk := (toks_around (F := F)) $$ Htok
  iapply (dev_each (R := records m N) (Φ := fun c => linear c) fun c => keep_intro m c N)
  isplitr
  · unfold records; isplitl; · iexact HI
    iexact HR
  · iapply (Entails.of_eq e'.symm)
    isplitl [Hat]; · iexact Hat
    iexact Htk

/-- The update. -/
theorem glob : (bigSep Finset.univ fun c => iprop(ownZero c ∗ unscopedSems0 c ∗ G m c) : sProp 𝕄) ⊢ |={Set.univ}=> bigSep Finset.univ (G' m) :=
  ((BI.bigSep_mono fun c _ => core_alloc m c).trans (bigSep_fupd _ _)).trans (BI.fupd_mono (regroup m))

end Cert.Quad

end
-- ==== Proof.Credit.lean ====
/-
The credits of the launch: what every device owes, counted at the cell it is owed to.
-/
module

public import proofs.«01_k».proof.Proof.Cells

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (N : Dev nD × Fin 37 → ℕ) (c : Dev nD)

theorem bar_eq_iff {a b : Dev nD} : Iff (barCell a = barCell b) (a = b) :=
  ⟨fun h => congrArg (fun g : GSem nD τ sig => g.1.1) h, fun h => h ▸ rfl⟩
theorem rv_eq {i s i' s' : Fin 4} {a b : Dev nD} (h : rvCell i s a = rvCell i' s' b) : i = i' ∧ s = s' ∧ a = b := by
  have h1 : a = b := congrArg (fun g : GSem nD τ sig => g.1.1) h
  have h2 : role (.dma (rvSem i s)) = role (.dma (rvSem i' s')) := congrArg (fun g : GSem nD τ sig => role g.2) h
  rw [role_rv, role_rv] at h2
  cases h2
  exact ⟨rfl, rfl, h1⟩
theorem rv_ne_bar (i s : Fin 4) (a b : Dev nD) : rvCell i s a ≠ barCell b := fun h => by
  have h2 : SemLoc.dma (rvSem i s) = SemLoc.reg barS := congrArg Prod.snd h
  cases h2

theorem owed_at (d : Dev nD) (p : Fin 4 × Fin 4 × Fin 2) (i s : Fin 4) (b : Dev nD) (u : ℕ) :
    owed d ![0, 0, 0, 0] p (rvCell i s b) u = if p.1 = i ∧ p.2.1 = s ∧ tgt i s d = b ∧ u = p.2.2.val then NS s else 0 := by
  have hp : ∀ p : Fin 4 × Fin 4 × Fin 2, pending ![0, 0, 0, 0] p := by decide
  unfold owed
  rw [if_pos (hp p), tallyAt_apply]
  by_cases h : p.1 = i ∧ p.2.1 = s ∧ tgt i s d = b ∧ u = p.2.2.val
  · obtain ⟨h1, h2, h3, h4⟩ := h
    rw [if_pos ⟨by rw [h1, h2, h3], h4⟩, if_pos ⟨h1, h2, h3, h4⟩, h2]
  · rw [if_neg h, if_neg]
    rintro ⟨h', h4⟩
    obtain ⟨h1, h2, h3⟩ := rv_eq h'
    exact h ⟨h1.symm, h2.symm, by rw [h1, h2]; exact h3.symm, h4⟩

theorem Ow_at (d : Dev nD) (i s : Fin 4) (b : Dev nD) (u : ℕ) :
    Ow d ![0, 0, 0, 0] (rvCell i s b) u = if tgt i s d = b then (if u < 2 then NS s else 0) else 0 := by
  unfold Ow
  rw [Finset.sum_apply, Finsupp.finset_sum_apply, Finset.sum_congr rfl fun p _ => owed_at d p i s b u]
  by_cases hb : tgt i s d = b
  · by_cases hu : u < 2
    · rw [if_pos hb, if_pos hu, Finset.sum_eq_single (i, s, (⟨u, hu⟩ : Fin 2)), if_pos ⟨rfl, rfl, hb, rfl⟩]
      · rintro ⟨j, t, r⟩ - hne
        refine if_neg ?_
        rintro ⟨h1, h2, -, h4⟩
        apply hne
        dsimp only at h1 h2 h4
        subst h1 h2 h4
        rfl
      · exact fun h => absurd (Finset.mem_univ _) h
    · rw [if_pos hb, if_neg hu]
      exact Finset.sum_eq_zero fun p _ => if_neg (by rintro ⟨-, -, -, h⟩; exact hu (h ▸ p.2.2.isLt))
  · rw [if_neg hb]
    exact Finset.sum_eq_zero fun p _ => if_neg fun h => hb h.2.2.1

theorem Ow_bar (d b : Dev nD) (e : Fin 4 → ℕ) (u : ℕ) : Ow d e (barCell b) u = 0 := by
  by_contra h
  obtain ⟨p, -, hp, -⟩ := Ow_pos (Nat.pos_of_ne_zero h)
  exact rv_ne_bar _ _ _ _ hp.symm

theorem owed_rv (d : Dev nD) (i s : Fin 4) (b : Dev nD) (u : ℕ) :
    O₀ d (rvCell i s b) u = if d = tgt i s b then (if u < 2 then NS s else 0) else 0 := by
  unfold O₀ O₁
  rw [Pi.add_apply, Finsupp.add_apply, Pi.add_apply, Finsupp.add_apply, tallyAt_ne_cell (rv_ne_bar i s b _), tallyAt_ne_cell (rv_ne_bar i s b _),
    Finsupp.zero_apply, Nat.add_zero, Nat.add_zero, Ow_at]
  by_cases h : d = tgt i s b
  · rw [if_pos h, if_pos (by rw [h, tgt_tgt])]
  · rw [if_neg h, if_neg (fun h' => h (by rw [← h', tgt_tgt]))]

theorem owed_bar (d b : Dev nD) (u : ℕ) :
    O₀ d (barCell b) u = (if d = yn b then (if u = 0 then 1 else 0) else 0) + (if d = xn b then (if u = 0 then 1 else 0) else 0) := by
  unfold O₀ O₁
  rw [Pi.add_apply, Finsupp.add_apply, Pi.add_apply, Finsupp.add_apply, Ow_bar, Nat.zero_add, tallyAt_apply, tallyAt_apply]
  congr 1
  · by_cases h : d = yn b
    · subst h
      by_cases hu : u = 0
      · rw [yn_yn, if_pos ⟨rfl, hu⟩, if_pos rfl, if_pos hu]
      · rw [if_pos rfl, if_neg hu]; exact if_neg fun h : _ ∧ u = 0 => hu h.2
    · rw [if_neg h, if_neg (fun h' => h (by rw [bar_eq_iff.mp h'.1, yn_yn]))]
  · by_cases h : d = xn b
    · subst h
      by_cases hu : u = 0
      · rw [xn_xn, if_pos ⟨rfl, hu⟩, if_pos rfl, if_pos hu]
      · rw [if_pos rfl, if_neg hu]; exact if_neg fun h : _ ∧ u = 0 => hu h.2
    · rw [if_neg h, if_neg (fun h' => h (by rw [bar_eq_iff.mp h'.1, xn_xn]))]

theorem launch_bar : tallyOn (barCell c) (launchCredit (Pipeline.owing O₀) 0 (barCell c)) = (tallyAt (barCell c) 0 2 : CellTallies nD τ sig ℕ) := by
  unfold tallyAt; refine congrArg _ (Finsupp.ext fun u => ?_)
  rw [Pipeline.launchCredit_owing, Finset.sum_congr rfl fun d _ => owed_bar d c u, Finset.sum_add_distrib,
    Finset.sum_ite_eq' Finset.univ (yn c) fun _ => _, Finset.sum_ite_eq' Finset.univ (xn c) fun _ => _, if_pos (Finset.mem_univ _), if_pos (Finset.mem_univ _),
    Finsupp.single_apply]
  by_cases hu : u = 0
  · rw [if_pos hu, if_pos hu.symm]
  · rw [if_neg hu, if_neg (Ne.symm hu)]; rfl

theorem launch_rv (i s : Fin 4) : tallyOn (rvCell i s c) (launchCredit (Pipeline.owing O₀) 0 (rvCell i s c))
    = (tallyAt (rvCell i s c) 0 (NS s) + tallyAt (rvCell i s c) 1 (NS s) : CellTallies nD τ sig ℕ) := by
  unfold tallyAt tallyOn
  rw [← Pi.single_add]
  refine congrArg _ (Finsupp.ext fun u => ?_)
  rw [Pipeline.launchCredit_owing, Finset.sum_congr rfl fun d _ => owed_rv d i s c u,
    Finset.sum_ite_eq' Finset.univ (tgt i s c) fun _ => _, if_pos (Finset.mem_univ _), Finsupp.add_apply, Finsupp.single_apply, Finsupp.single_apply]
  rcases u with _ | _ | u
  · exact (Nat.add_zero _).symm
  · exact (Nat.zero_add _).symm
  · rw [if_neg (by omega), if_neg (by omega), if_neg (by omega)]; rfl

/-- The launch's credits, by lane. -/
theorem creds : (Pipeline.launchCred O₀ c : sProp 𝕄) ⊢ credits c := by
  have hne : ∀ p : Fin 4 × Fin 4, SemLoc.dma (rvSem p.1 p.2) ≠ SemLoc.reg barS := fun p h => by cases h
  have hinj : Function.Injective fun p : Fin 4 × Fin 4 => (SemLoc.dma (rvSem p.1 p.2) : SemLoc sig) := fun p q h => by
    have h2 : role (.dma (rvSem p.1 p.2)) = role (.dma (rvSem q.1 q.2)) := congrArg role h
    rw [role_rv, role_rv] at h2
    injection h2 with h3 h4
    exact Prod.ext h3 h4
  unfold Pipeline.launchCred credits laneCreds
  rw [bigSep_univ_at _ (SemLoc.reg barS), launch_bar]
  refine BI.sep_mono (BI.Entails.refl _) ?_
  have hsub : (Finset.univ.map ⟨_, hinj⟩ : Finset (SemLoc sig)) ⊆ Finset.univ.erase (SemLoc.reg barS) := fun sm h => by
    obtain ⟨p, -, rfl⟩ := Finset.mem_map.mp h
    exact Finset.mem_erase.mpr ⟨hne p, Finset.mem_univ _⟩
  refine (bigSep_subset hsub).trans ?_
  rw [bigSep_map, bigSep_univ_prod]
  refine BI.bigSep_mono fun i _ => BI.bigSep_mono fun s _ => ?_
  refine (Entails.of_eq (congrArg cred (launch_rv c i s))).trans (cred_add _ _).1

end Cert.Quad

end
-- ==== Proof.Launch.lean ====
/-
The launch: the region run on all four devices, and what its result array, its argument and its semaphores are left at.
-/
module

public import proofs.«01_k».proof.Proof.Glob
public import proofs.«01_k».proof.Proof.Credit
public import proofs.«01_k».proof.Proof.Gen.KernelIdeal.Points
public import Idealize.ShloMosaic.Lib.Pipeline.CollectiveSegs
public import Idealize.ShloMosaic.Lib.Quiescent

@[expose] public section

noncomputable section

namespace Cert.Quad

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg) (c : Dev nD)

abbrev t₀ : Fin cfg0.N := t0_0
theorem fin_N (t : Fin cfg0.N) : t = t₀ := fin_N0 t

/-! ## The proof data -/

/-- What a device's body starts from, the result's buffer and what it owes apart. -/
def start : sProp 𝕄 := iprop(∃ N, recs m N ∗ linear c ∗ credits c ∗ argAt c m)
def Φ₀ : sProp 𝕄 := iprop(start m c ∗ scratches c)

def dats (_ : Fin 1) (c : Dev nD) : Dat τ (Elt F) ℕ ℕ UU ℕ cfg0 c where
  A w := m ((cfg0.win w).arr.view.loc (c : Thread nD τ))
  after w _ := match w with
    | ⟨0, _⟩ => buf (OO m)
  Φ t := match t with
    | ⟨0, _⟩ => Φ₀ m c
    | ⟨_ + 1, _⟩ => Rest m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt 0 t₀.castSucc ∗ (∃ d, stg c cc0_stg0_0 ((dats m 0 c).before (0 : Fin 1) t₀ d)))
def bodyPost : sProp 𝕄 :=
  iprop(Rest m c ∗ (dats m 0 c).owesAt 0 t₀.succ ∗ stg c cc0_stg0_0 (buf (OO m)))

theorem pre_begin : bodyPre m c ⊢ (iprop(∃ N, Begin m N c) : sProp 𝕄) := by
  unfold bodyPre Φ₀ start Dat.owesAt Pipeline.owesWithin
  rw [show (dats m 0 c).owed t₀.castSucc = O₀ c from rfl]
  iintro ⟨⟨⟨%N, HR, HL, HC, HA⟩, HS⟩, ⟨%W, -, HO⟩, ⟨%d, %f, -, Hf⟩⟩
  iexists N
  iapply (begin_intro m N c)
  isplitl [HR]; · iexact HR
  isplitl [HL]; · iexact HL
  isplitl [HC]; · iexact HC
  isplitl [HA]; · iexact HA
  isplitl [Hf]; · iexists f; iexact Hf
  isplitl [HS]; · iexact HS
  iexists W; iexact HO

theorem post_end : iprop(Rest m c ∗ (∃ W, owes (c : Thread nD τ) 0 W) ∗ ((c : Thread nD τ).loc cc0_stg0_0 ↦{fullShare} buf (OO m))) ⊢ (bodyPost m c : sProp 𝕄) := by
  unfold bodyPost Dat.owesAt Pipeline.owesWithin
  rw [show (dats m 0 c).owed t₀.succ = 0 from rfl]
  iintro ⟨HR, ⟨%W, HO⟩, Hf⟩
  isplitl [HR]; · iexact HR
  isplitl [HO]
  · iexists W
    isplitr; · ipureintro; exact fun _ _ => Or.inl trivial
    iexact HO
  iexists _
  isplitr; · (ipureintro; rfl)
  iexact Hf

theorem body_go (hA : xA.IsWhole) (hO : oM.IsWhole) (hX : xinB.IsWhole) (hS : stgB.IsWhole) (h1 : r1B.IsWhole) (h2 : r2B.IsWhole) :
    bodyPre m c ⊢ Runs c (cc0_body xA hA oM hO xinB hX stgB hS r1B h1 r2B h2 cc0_scratch4 cc0_scratch5 cc0_scratch6) (fun _ => bodyPost m c) := by
  refine (pre_begin m c).trans ?_
  iintro ⟨%N, HB⟩
  iapply wp_wand $$ [HB]
  · iapply (body_run m N c hA hO hX hS h1 h2); iexact HB
  iintro %u H
  iapply (post_end m c); iexact H

set_option maxRecDepth 20000 in
/-- The body obligation. -/
theorem body_obligation : BodyObligation (dats (F := F) m 0 c) (defs₀ (F := F)) Variants.none 0 Set.univ := fun t => by
  rw [fin_N t]
  rw [bigSep_W0, bigSep_W0]
  simp only [owns_whole_eq]
  refine (show _ ⊢ bodyPre m c from ?_).trans ?_
  · exact BI.Entails.refl _
  have e : (defs₀ (F := F)) Proc.tc 0 (t₀, cfg0.slots t₀) = bodyAt0 (F := F) t₀ := rfl
  rw [e]
  have hb := body_go m c (Memref.isWhole_whole _) (Memref.isWhole_whole _) (Memref.isWhole_whole _) (Memref.isWhole_whole _) (Memref.isWhole_whole _) (Memref.isWhole_whole _)
  have eb : bodyAt0 (F := F) t₀ = cc0_body xA (Memref.isWhole_whole _) oM (Memref.isWhole_whole _) xinB (Memref.isWhole_whole _) stgB (Memref.isWhole_whole _) r1B (Memref.isWhole_whole _) r2B (Memref.isWhole_whole _) cc0_scratch4 cc0_scratch5 cc0_scratch6 := rfl
  rw [eb]
  generalize cc0_body (F := F) xA (Memref.isWhole_whole _) oM (Memref.isWhole_whole _) xinB (Memref.isWhole_whole _) stgB (Memref.isWhole_whole _) r1B (Memref.isWhole_whole _) r2B (Memref.isWhole_whole _) cc0_scratch4 cc0_scratch5 cc0_scratch6 = p at hb ⊢
  refine hb.trans ?_
  refine wp_mono _ _ _ ?_
  intro _
  unfold bodyPost
  exact BI.Entails.refl _

/-! ## The launch's side conditions -/

theorem share_eq (c : Dev nD) (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  rw [Pipeline.unscopedRestP_none, unscopedRest0_eq]
  unfold G' records
  iintro ⟨Hx, Hlev, Hcr, -, ⟨%N, ⟨HI, HR⟩, HL⟩⟩
  ihave Hc := (creds (F := F) c) $$ Hcr
  imodintro
  unfold start recs
  isplitl
  · iexists N
    isplitl [HI HR Hlev]
    · isplitl [HI]; · iexact HI
      isplitl [HR] <;> iassumption
    isplitl [HL]; · iexact HL
    isplitl [Hc] <;> iassumption
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs] <;> iassumption

/-- What is read at the end: the argument, and the barrier's semaphore. -/
def Y : sProp 𝕄 := iprop(unscopedSems0 c ∗ argAt c m)

theorem phi1_exit : (dats m 0 c).Φ (Fin.last cfg0.N) ⊢ iprop(Y m c ∗ ownZero c ∗ Pipeline.scopedRest cfg0.spec c) := by
  rw [show (dats m 0 c).Φ (Fin.last cfg0.N) = Rest m c from rfl, scopedRest0_eq]
  unfold Rest Y
  rw [sems0_eq]
  iintro ⟨HA, HS, Hu, Ho⟩
  isplitl [HA Hu]; · isplitl [Hu] <;> iassumption
  isplitl [Ho] <;> iassumption

theorem O₀_pos {g : GSem nD τ sig} {u : ℕ} (h : 0 < O₀ c g u) : u ∈ L g ∧ 0 < lv g u := by
  unfold O₀ O₁ at h
  rw [Pi.add_apply, Finsupp.add_apply, Pi.add_apply, Finsupp.add_apply] at h
  have hb : ∀ n : Dev nD, 0 < (tallyAt (barCell n) 0 1 : CellTallies nD τ sig ℕ) g u → u ∈ L g ∧ 0 < lv g u := fun n hn => by
    rw [tallyAt_apply] at hn
    by_cases h' : g = barCell n ∧ u = 0
    · obtain ⟨rfl, rfl⟩ := h'
      exact ⟨mem_L _ _ (by decide), Nat.one_pos⟩
    · rw [if_neg h'] at hn; exact absurd hn (Nat.lt_irrefl 0)
  by_cases h1 : 0 < Ow c ![0, 0, 0, 0] g u
  · obtain ⟨p, -, rfl, rfl⟩ := Ow_pos h1
    refine ⟨mem_L _ _ p.2.2.isLt, ?_⟩
    show 0 < lvOf _ (role _)
    rw [role_rv]
    exact Nat.succ_pos _
  · by_cases h2 : 0 < (tallyAt (barCell (yn c)) 0 1 : CellTallies nD τ sig ℕ) g u
    · exact hb _ h2
    · exact hb (xn c) (by omega)

theorem mayWait_stage (q : DmaSem sig) (hq : q.val = 0) (O : CellTallies nD τ sig ℕ) (hO : O = O₀ c ∨ O = 0) :
    (levAts L lv : sProp 𝕄) ⊢ MayWait (c : Thread nD τ) (.dma q) 0 O := by
  have hr : role (.dma q) = .other := if_pos (by omega)
  rcases hO with rfl | rfl
  · exact MayOwe.of_cut (L := L) (lev := lv) 0 (fun p hp => by rw [Finset.mem_singleton.mp hp]; exact mem_L c (.dma q) (by decide : (0 : ℕ) < 2))
      (fun g u hg => (O₀_pos c hg).1)
      (fun p hp => by rw [Finset.mem_singleton.mp hp]; show lvOf 0 (role (.dma q)) ≤ 0; rw [hr]; exact le_refl _)
      (fun g u hg => (O₀_pos c hg).2)
  · rw [MayWait_zero]; iintro -; iempintro

theorem waits : (levAts L lv : sProp 𝕄) ⊢ Pipeline.cellsWaits cfgs (dats m) 0 0 c :=
  Pipeline.cellsWaits_intro cfgs (dats m) 0 0 c fun w s t =>
    mayWait_stage c _ (by fin_cases w; fin_cases s; rfl) _ (by
      rcases t with ⟨_ | _, ht⟩
      · exact Or.inl rfl
      · exact Or.inr rfl)

/-- What is read of a device at the end. -/
def QY (s : MemSt nD τ sig (Elt F)) : Prop :=
  (∀ sm : SemLoc sig, sm.isScoped .tc = false → s.sem ((c.tc : Thread nD τ), sm) = 0) ∧ s.mem ((c : Thread nD τ).loc main_arg0) = m ((c : Thread nD τ).loc main_arg0)

theorem read_end (s' : Phys nD τ sig (Elt F)) : iprop(Y m c ∗ emp ∗ SI s') ⊢ |={Set.univ}=> (iprop(⌜QY m c s'.mem⌝ ∗ SI s') : sProp 𝕄) := by
  unfold Y
  iintro ⟨⟨Hu, HA⟩, -, HSI⟩
  icombine HSI HA gives %h
  imod (Pipeline.unscopedSems0_read (X := unscopedSems0 c) (c := c) fupd_intro s') $$ [Hu HSI] with ⟨%h', HSI⟩
  · isplitl [Hu] <;> iassumption
  imodintro
  isplitr
  · ipureintro; exact ⟨h', Buf.eq_of_forall_mem_univ h⟩
  iexact HSI

/-! ## The result array -/

theorem arr_end (c : Dev nD) : (dats m 0 c).arrAt 0 cfg0.N = buf (OO m) := by
  refine (dats m 0 c).arrAt_eq_of_cover 0 (buf (OO m)) (fun t _ => ?_) fun i => ⟨t₀, flush0_0 _, ?_⟩
  · obtain rfl := fin_N t
    unfold Dat.flushed
    funext j
    rw [View.read_apply]
    exact congrArg (buf (OO m)) (funext fun a => Fin.ext (by
      show (j a : Nat) = 0 * S4096x2048.size a + 1 * (j a : Nat)
      omega))
  · show i ∈ ((View.whole main_v1).slice (win0_0.rect t₀)).set
    rw [View.set_slice_whole, Rect.mem_set_unit]
    intro a
    show 0 * S4096x2048.size a ≤ (i a : Nat) ∧ (i a : Nat) < 0 * S4096x2048.size a + S4096x2048.size a
    have h : (i a : Nat) < S4096x2048.size a := (i a).isLt
    omega

/-! ## The program -/

set_option maxRecDepth 20000 in
/-- From any memory with zero counters, every weakly fair execution of the program terminates, and ends with the result
    at the sums, the argument unchanged and every counter at zero. -/
theorem run_main : θ_run defs (onTc (τ := τ) (main (F := F))) ⟨m, fun _ => 0, ρ⟩ (fun r =>
    (∀ c : Dev nD, r.2.mem ((c : Thread nD τ).loc main_v1) = buf (OO m) ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ Variants.none m ρ main
    (hmain := fun _ => rfl) (hbody := body_obligation m) (hne := block_pos0) (harr := arr_whole0) (hstage := stage_whole0)
    (hshare := share_eq m) (hdistinct := winFacts0.arr_inj) (O₀ := O₀) (howed₀ := fun _ => rfl) (howedN := fun _ => rfl)
    (L := L) (lv := lv) (hL := L_of_ne) (hwaits := waits m) (G := G m) (G' := G' m) (u₀ := u₀)
    (hu₀ := by
      unfold u₀
      iintro Hu
      ihave H := (ownU_pair _ _) $$ Hu
      icases H with ⟨HP, HX⟩
      imod (fund_quad m) $$ HX with HG
      imodintro
      isplitl [HP] <;> iassumption)
    (hglob := glob m) (hA := fun _ _ => rfl) (hpf := fun _ k => k.elim0) (X := start m) (Y := Y m) (Z := fun _ => iprop(emp))
    (hX := start_intro m ρ) (hin := phi0_intro m) (hout := phi1_exit m) (QY := QY m) (hY := read_end m)
    (hQ := fun _ h hs => ⟨fun c => ⟨((h c).1 0).trans (arr_end m c), (h c).2.2.2⟩, sem_eq_zero hs fun c => (h c).2.2.1⟩)

end Cert.Quad

end
-- ==== Proof.RefValue.lean ====
/-
What the reference computes over the extended reals: at row `a` and column `b`, the sum of the whole array over the
two row blocks and the two column blocks.
-/
module

public import proofs.«01_k».proof.Proof.Gen.ReferenceIdeal.Run
public import Idealize.ShloMosaic.PureOps.Ideal
public import Idealize.ShloMosaic.PureOps.Ideal.Laws
public import Idealize.ShloMosaic.Lib.ValueIdx
public import Idealize.ShloMosaic.Lib.IdealHost
public import Idealize.ShloMosaic.Lib.Pipeline.Value

@[expose] public section

noncomputable section

namespace Cert.Quad.Ref

open Cert.ReferenceIdeal Cert.ReferenceIdeal.Gen Idealize.ShloMosaic Idealize.ShloMosaic.ValueIdx

/-- The indices of the whole array. -/
abbrev Whole : Type := S8192x4096.Idx

/-- The place in the whole array of row `a` and column `b` of block `(p, q)`. -/
def at4 (p q : Fin 2) (a : Fin 4096) (b : Fin 2048) : S8192x4096.Idx :=
  ix2 ⟨p.val * 4096 + a.val, by omega⟩ ⟨q.val * 2048 + b.val, by omega⟩

/-- The sum of the four blocks at row `a` and column `b`. -/
def total (M : S8192x4096.Idx → EReal) (a : Fin 4096) (b : Fin 2048) : EReal := ∑ k : Fin 2 × Fin 2, M (at4 k.1 k.2 a b)

/-- The source indices that the reduction over axes 0 and 2 adds into `j` are those with `j`'s coordinates on axes 1 and 3. -/
theorem drop_iff (j : S4096x2048.Idx) (i : S2x4096x2x2048.Idx) :
    Iff (reducesTo_S2x4096x2x2048_S4096x2048_d0_2.drop i = j) (ix4 (i 0) (j 0) (i 2) (j 1) = i) := by
  constructor
  · rintro rfl
    funext x
    match x with
    | ⟨0, _⟩ => rfl
    | ⟨1, _⟩ => rfl
    | ⟨2, _⟩ => rfl
    | ⟨3, _⟩ => rfl
  · intro h
    funext x
    match x with
    | ⟨0, _⟩ => exact (congrFun h 1).symm
    | ⟨1, _⟩ => exact (congrFun h 3).symm

theorem reduce_eq (v : S2x4096x2x2048.Idx → EReal) (init : EReal) (j : S4096x2048.Idx) :
    Ideal.hostReduceAdd reducesTo_S2x4096x2x2048_S4096x2048_d0_2 v init j = init + ∑ k : Fin 2 × Fin 2, v (ix4 k.1 (j 0) k.2 (j 1)) := by
  unfold Ideal.hostReduceAdd
  refine congrArg (init + ·) ?_
  refine Finset.sum_bij' (fun i _ => ((i 0, i 2) : Fin 2 × Fin 2)) (fun k _ => ix4 k.1 (j 0) k.2 (j 1)) ?_ ?_ ?_ ?_ ?_
  · intro i _; exact Finset.mem_univ _
  · intro k _; exact Finset.mem_filter.mpr ⟨Finset.mem_univ _, (drop_iff j _).mpr rfl⟩
  · intro i hi; exact (drop_iff j i).mp (Finset.mem_filter.mp hi).2
  · intro k _; rfl
  · intro i hi; exact congrArg v ((drop_iff j i).mp (Finset.mem_filter.mp hi).2).symm

/-- The reference's result as a term of its argument, at an index. -/
theorem value (M : S8192x4096.Idx → EReal) (j : S4096x2048.Idx) :
    (truncf (F := Ideal) .bf16 (Host.reduceAdd (extf .f32 (shapeCast S2x4096x2x2048 (truncf (F := Ideal) (φ := .f32) .bf16 M bitsLt_bf16_f32) shapeCasts_S8192x4096_S2x4096x2x2048) bitsLt_bf16_f32)
      (constant S_ .f32 0x00000000#32) reducesTo_S2x4096x2x2048_S4096x2048_d0_2 h_S_) bitsLt_bf16_f32 : S4096x2048.Idx → EReal) j = total M (j 0) (j 1) := by
  show Ideal.hostReduceAdd reducesTo_S2x4096x2x2048_S4096x2048_d0_2 (shapeCast S2x4096x2x2048 M shapeCasts_S8192x4096_S2x4096x2x2048) (Ideal.ofBits .f32 0x00000000#32) j = _
  rw [reduce_eq, Ideal.ofBits_zero_f32, zero_add]
  refine Finset.sum_congr rfl fun k _ => ?_
  refine shapeCast_apply M shapeCasts_S8192x4096_S2x4096x2x2048 _ (at4 k.1 k.2 (j 0) (j 1)) ?_
  rw [Shape.rowMajor_val_two, Shape.rowMajor_val_four]
  show (k.1.val * 4096 + (j 0).val) * 4096 + (k.2.val * 2048 + (j 1).val) = ((k.1.val * 4096 + (j 0).val) * 2 + k.2.val) * 2048 + (j 1).val
  omega

end Cert.Quad.Ref

end
-- ==== Proof.Equation.lean ====
/-
The equation: over the extended reals every device's sum of the four devices' blocks, in whatever order it adds them, is
the sum over the blocks of the whole array.
-/
module

public import proofs.«01_k».proof.Proof.Sched
public import proofs.«01_k».proof.Proof.RefValue
public import Idealize.ShloMosaic.Lib.Layout

@[expose] public section

noncomputable section

namespace Cert.Quad

open Cert.KernelIdeal Cert.KernelIdeal.Gen Idealize.ShloMosaic Idealize.ShloMosaic.TcCoe Idealize.ShloMosaic.ValueIdx

/-- The four devices that lane `i` of device `c` adds are all four devices. -/
theorem four_devices (i : Fin 4) (c : Dev nD) (f : Dev nD → EReal) :
    f c + f (nb1 i c) + (f (nb2 i c) + f (nb1 i (nb2 i c))) = ∑ d : Dev nD, f d := by
  have h : ∀ (i : Fin 4) (c : Dev nD), (Finset.univ : Finset (Dev nD)) = {c, nb1 i c, nb2 i c, nb1 i (nb2 i c)}
      ∧ c ≠ nb1 i c ∧ c ≠ nb2 i c ∧ c ≠ nb1 i (nb2 i c) ∧ nb1 i c ≠ nb2 i c ∧ nb1 i c ≠ nb1 i (nb2 i c) ∧ nb2 i c ≠ nb1 i (nb2 i c) := by decide
  obtain ⟨hu, h1, h2, h3, h4, h5, h6⟩ := h i c
  rw [hu, Finset.sum_insert (by simp [h1, h2, h3]), Finset.sum_insert (by simp [h4, h5]), Finset.sum_insert (by simp [h6]), Finset.sum_singleton]
  simp only [add_assoc]

/-- The devices in the mesh's order: two rows of two. -/
def place : Fin 2 × Fin 2 ≃ Dev nD where
  toFun k := ⟨2 * k.1.val + k.2.val, by show _ < 4; omega⟩
  invFun d := (⟨d.val / 2, by have : d.val < 4 := d.isLt; omega⟩, ⟨d.val % 2, by omega⟩)
  left_inv k := Prod.ext (Fin.ext (by show (2 * k.1.val + k.2.val) / 2 = k.1.val; omega)) (Fin.ext (by show (2 * k.1.val + k.2.val) % 2 = k.2.val; omega))
  right_inv d := Fin.ext (by show 2 * (d.val / 2) + d.val % 2 = d.val; omega)

variable (m : (ℓ : Loc nD τ sig) → Buf (Elt Ideal) ℓ) (M : Ref.Whole → EReal)

/-- Each device holds its block of the whole array `M`. -/
def Blocks : Prop := ∀ c : Dev nD, (m ((c : Thread nD τ).loc main_arg0) : S4096x2048.Idx → EReal)
    = Layout.blockN ⟨2, ![4096, 2048]⟩ ⟨2, ![8192, 4096]⟩ (Layout.meshBlock [2, 2] ![[0], [1]] c) M

variable {m M}

/-- The block that the device at place `k` of the mesh holds. -/
abbrev mesh (k : Fin 2 × Fin 2) := Layout.meshBlock [2, 2] ![[0], [1]] (place k)

theorem mesh_val : ∀ k : Fin 2 × Fin 2, (mesh k 0).val = k.1.val ∧ (mesh k 1).val = k.2.val := by decide

theorem T_eq (h : Blocks m M) (k : Fin 2 × Fin 2) (a : Fin 4096) (b : Fin 2048) : (T m (place k) a.val b : EReal) = M (Ref.at4 k.1 k.2 a b) := by
  show (m ((place k : Thread nD τ).loc main_arg0) : S4096x2048.Idx → EReal) (ix2 ⟨a.val % 4096, _⟩ b) = _
  rw [h, Layout.blockN_apply]
  refine congrArg M (funext fun x => Fin.ext ?_)
  rw [Layout.TilesN.idx_val]
  match x with
  | ⟨0, _⟩ =>
    show (mesh k 0).val * 4096 + a.val % 4096 = k.1.val * 4096 + a.val
    rw [(mesh_val k).1, Nat.mod_eq_of_lt a.isLt]
  | ⟨1, _⟩ =>
    show (mesh k 1).val * 2048 + b.val = k.2.val * 2048 + b.val
    rw [(mesh_val k).2]

/-- The result every device ends with is the sum of the four blocks. -/
theorem OO_eq (h : Blocks m M) (a : Fin 4096) (b : Fin 2048) : (OO m a.val b : EReal) = Ref.total M a b := by
  show (T m _ a.val b : EReal) + T m _ a.val b + ((T m _ a.val b : EReal) + T m _ a.val b) = _
  rw [four_devices (lane a.val) (own (lane a.val) (a.val / 256 % 2) (a.val / 128 % 2)) fun d => (T m d a.val b : EReal)]
  unfold Ref.total
  rw [← place.sum_comp]
  exact Finset.sum_congr rfl fun k _ => T_eq h k a b

end Cert.Quad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's frame over any float values: the run with the contents left out. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (Cert.Quad.run_main (F := F) m ρ)

/-- The two programs have the same text: the same kernel under the one label. -/
theorem table₀ {F : FTy → Type} [FloatOps F] : Cert.KernelIdeal.defs₀ (F := F) = Cert.Kernel.defs₀ (F := F) := by
  refine congrArg (Defs.onTc (nD := 4) (τ := Cert.Kernel.τ) (sig := Cert.Kernel.sig) (Val := Elt F) (Λ := Cert.Kernel.Λ₀)) ?_
  funext l
  match l with
  | ⟨0, _⟩ => funext ⟨t, s⟩; rfl
  | ⟨_ + 1, h⟩ => exact absurd h (Nat.not_lt.2 (Nat.le_add_left _ _))

theorem table {F : FTy → Type} [FloatOps F] : Cert.KernelIdeal.defs (F := F) = Cert.Kernel.defs (F := F) :=
  congrArg (Pipeline.defs (Cert.Kernel.pcfgs (F := F))) table₀

/-- The kernel's frame at the machine's words. -/
theorem frame_kernel : Cert.quiescent_Kernel := by
  intro m ρ _
  rw [← table]
  exact frame_any (F := Bits) m ρ

/-- The kernel's frame over the extended reals. -/
theorem frame_ideal : Cert.quiescent_KernelIdeal := fun m ρ _ => frame_any (F := Ideal) m ρ

/-- The reference's frame; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Every device's result is the reference's. -/
theorem algebraic : Cert.algebraic_KernelIdeal_ReferenceIdeal := fun m g m' g' _ hb =>
  ⟨_, (θ_run Cert.KernelIdeal.defs _ _).mono (fun _ h c => ⟨(h.1 c).1.trans (funext fun j =>
        (Cert.Quad.OO_eq (m := m) hb (j 0) (j 1)).trans (Cert.Quad.Ref.value _ j).symm), (h.1 c).2⟩) (Cert.Quad.run_main (F := Ideal) m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
